-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_diffusion [hPre_diffusion : Cert.Pre_diffusion.Facts] (m : (ℓ : Loc Cert.KernelIdeal.nD Cert.KernelIdeal.τ Cert.KernelIdeal.sig) → Buf (Elt Ideal) ℓ) : Prop :=
  ∀ c : Dev Cert.KernelIdeal.nD,
    (Cert.Pre_diffusion.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_diffusion [hPre_diffusion : Cert.Pre_diffusion.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_diffusion.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_diffusion [hKernelIdeal : Cert.KernelIdeal.Facts] [hPre_diffusion : Cert.Pre_diffusion.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_diffusion m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_diffusion [hReferenceIdeal : Cert.ReferenceIdeal.Facts] [hPre_diffusion : Cert.Pre_diffusion.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_diffusion m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_diffusion [hKernelIdeal : Cert.KernelIdeal.Facts] [hReferenceIdeal : Cert.ReferenceIdeal.Facts] [hPre_diffusion : Cert.Pre_diffusion.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_diffusion m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_diffusion : Cert.Pre_diffusion.Facts),
    quiescent_Kernel (hKernel := hKernel) (hPre_in_range := hPre_in_range)
    ∧ quiescent_KernelIdeal (hKernelIdeal := hKernelIdeal) (hPre_in_range := hPre_in_range)
    ∧ quiescent_KernelIdeal_pre_diffusion (hKernelIdeal := hKernelIdeal) (hPre_diffusion := hPre_diffusion)
    ∧ quiescent_ReferenceIdeal (hReferenceIdeal := hReferenceIdeal)
    ∧ quiescent_ReferenceIdeal_pre_diffusion (hReferenceIdeal := hReferenceIdeal) (hPre_diffusion := hPre_diffusion)
    ∧ preserves_Kernel_KernelIdeal
    ∧ algebraic_KernelIdeal_ReferenceIdeal_pre_diffusion (hKernelIdeal := hKernelIdeal) (hReferenceIdeal := hReferenceIdeal) (hPre_diffusion := hPre_diffusion)
-- ==== Pre_diffusion.lean ====
abbrev S262144x16 : Shape := ⟨2, ![262144, 16]⟩
abbrev S262144 : Shape := ⟨1, ![262144]⟩
abbrev S500x16x16 : Shape := ⟨3, ![500, 16, 16]⟩
abbrev S_ : Shape := ⟨0, ![]⟩
abbrev S500x1x1 : Shape := ⟨3, ![500, 1, 1]⟩

class Facts : Prop where
  bcast_S_S262144 : S_.BroadcastsInDim S262144 (![] : Fin 0 → Fin S262144.rank)
  reducesTo_S262144_S_d0 : S262144.ReducesTo [0] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S500x16x16 : S_.BroadcastsInDim S500x16x16 (![] : Fin 0 → Fin S500x16x16.rank)
  reducesTo_S500x16x16_S_d0_1_2 : S500x16x16.ReducesTo [0, 1, 2] S_
  slices_S500x16x16_S500x1x1_0_0_0 : S500x16x16.Slices ![0, 0, 0] S500x1x1
  slices_S500x16x16_S500x1x1_0_0_1 : S500x16x16.Slices ![0, 0, 1] S500x1x1
  bcast_S500x1x1_S500x16x16_0_1_2 : S500x1x1.BroadcastsInDim S500x16x16 (![0, 1, 2] : Fin 3 → Fin S500x16x16.rank)

variable [Facts]

def fn_where {F : FTy → Type} [FloatOps F] (arg0 : IVec S500x16x16 1) (arg1 : FVec F S500x1x1 .f32) (arg2 : FVec F S500x1x1 .f32) : FVec F S500x16x16 .f32 :=
  let v0 : FVec F S500x16x16 .f32 := broadcastInDim S500x16x16 ![0, 1, 2] bcast_S500x1x1_S500x16x16_0_1_2 arg1
  let v1 : FVec F S500x16x16 .f32 := broadcastInDim S500x16x16 ![0, 1, 2] bcast_S500x1x1_S500x16x16_0_1_2 arg2
  let v2 : FVec F S500x16x16 .f32 := select arg0 v0 v1
  v2

def fn_part2 {F : FTy → Type} [FloatOps F] (main_arg3 : FVec F S500x16x16 .f32) (main_arg4 : FVec F S500x16x16 .f32) (main_v34 : IVec S_ 1) (main_v35 : IVec S500x16x16 32) : IVec S_ 1 :=
  let main_v36 : IVec S500x16x16 32 := iotaInDim S500x16x16 32 2
  let main_v37 : IVec S500x16x16 1 := cmpi .eq main_v35 main_v36
  let main_v38 : FVec F S500x1x1 .f32 := (extractStridedSlice S500x1x1 ![0, 0, 0] · slices_S500x16x16_S500x1x1_0_0_0) main_arg3
  let main_v39 : FVec F S500x1x1 .f32 := (extractStridedSlice S500x1x1 ![0, 0, 1] · slices_S500x16x16_S500x1x1_0_0_1) main_arg3
  let main_v40 : FVec F S500x16x16 .f32 := fn_where (F := F) main_v37 main_v38 main_v39
  let main_v41 : IVec S500x16x16 1 := cmpf .oeq main_arg3 main_v40
  let main_c_10 : IVec S_ 1 := constantI S_ 1 1#1
  let main_v42 : IVec S_ 1 := (fun x v => Host.reduce IntOp.andi x v reducesTo_S500x16x16_S_d0_1_2 h_S_) main_v41 main_c_10
  let main_v43 : IVec S_ 1 := andi main_v34 main_v42
  let main_v44 : IVec S500x16x16 32 := iotaInDim S500x16x16 32 1
  let main_v45 : IVec S500x16x16 32 := iotaInDim S500x16x16 32 2
  let main_v46 : IVec S500x16x16 1 := cmpi .eq main_v44 main_v45
  let main_v47 : FVec F S500x1x1 .f32 := (extractStridedSlice S500x1x1 ![0, 0, 0] · slices_S500x16x16_S500x1x1_0_0_0) main_arg4
  let main_v48 : FVec F S500x1x1 .f32 := (extractStridedSlice S500x1x1 ![0, 0, 1] · slices_S500x16x16_S500x1x1_0_0_1) main_arg4
  let main_v49 : FVec F S500x16x16 .f32 := fn_where (F := F) main_v46 main_v47 main_v48
  let main_v50 : IVec S500x16x16 1 := cmpf .oeq main_arg4 main_v49
  let main_c_11 : IVec S_ 1 := constantI S_ 1 1#1
  let main_v51 : IVec S_ 1 := (fun x v => Host.reduce IntOp.andi x v reducesTo_S500x16x16_S_d0_1_2 h_S_) main_v50 main_c_11
  let main_v52 : IVec S_ 1 := andi main_v43 main_v51
  main_v52

def fn_part1 {F : FTy → Type} [FloatOps F] (main_arg2 : FVec F S500x16x16 .f32) (main_arg3 : FVec F S500x16x16 .f32) (main_arg4 : FVec F S500x16x16 .f32) (main_v15 : IVec S_ 1) (main_v16 : FVec F S500x16x16 .f32) : IVec S_ 1 :=
  let main_cst_5 : FVec F S_ .f32 := constant S_ .f32 0x7F800000#32
  let main_v17 : FVec F S500x16x16 .f32 := broadcastInDim S500x16x16 ![] bcast_S_S500x16x16 main_cst_5
  let main_v18 : IVec S500x16x16 1 := cmpf .olt main_v16 main_v17
  let main_c_6 : IVec S_ 1 := constantI S_ 1 1#1
  let main_v19 : IVec S_ 1 := (fun x v => Host.reduce IntOp.andi x v reducesTo_S500x16x16_S_d0_1_2 h_S_) main_v18 main_c_6
  let main_v20 : IVec S_ 1 := andi main_v15 main_v19
  let main_v21 : FVec F S500x16x16 .f32 := Host.absf main_arg4
  let main_cst_7 : FVec F S_ .f32 := constant S_ .f32 0x7F800000#32
  let main_v22 : FVec F S500x16x16 .f32 := broadcastInDim S500x16x16 ![] bcast_S_S500x16x16 main_cst_7
  let main_v23 : IVec S500x16x16 1 := cmpf .olt main_v21 main_v22
  let main_c_8 : IVec S_ 1 := constantI S_ 1 1#1
  let main_v24 : IVec S_ 1 := (fun x v => Host.reduce IntOp.andi x v reducesTo_S500x16x16_S_d0_1_2 h_S_) main_v23 main_c_8
  let main_v25 : IVec S_ 1 := andi main_v20 main_v24
  let main_v26 : IVec S500x16x16 32 := iotaInDim S500x16x16 32 1
  let main_v27 : IVec S500x16x16 32 := iotaInDim S500x16x16 32 2
  let main_v28 : IVec S500x16x16 1 := cmpi .eq main_v26 main_v27
  let main_v29 : FVec F S500x1x1 .f32 := (extractStridedSlice S500x1x1 ![0, 0, 0] · slices_S500x16x16_S500x1x1_0_0_0) main_arg2
  let main_v30 : FVec F S500x1x1 .f32 := (extractStridedSlice S500x1x1 ![0, 0, 1] · slices_S500x16x16_S500x1x1_0_0_1) main_arg2
  let main_v31 : FVec F S500x16x16 .f32 := fn_where (F := F) main_v28 main_v29 main_v30
  let main_v32 : IVec S500x16x16 1 := cmpf .oeq main_arg2 main_v31
  let main_c_9 : IVec S_ 1 := constantI S_ 1 1#1
  let main_v33 : IVec S_ 1 := (fun x v => Host.reduce IntOp.andi x v reducesTo_S500x16x16_S_d0_1_2 h_S_) main_v32 main_c_9
  let main_v34 : IVec S_ 1 := andi main_v25 main_v33
  let main_v35 : IVec S500x16x16 32 := iotaInDim S500x16x16 32 1
  fn_part2 (F := F) main_arg3 main_arg4 main_v34 main_v35

def fn {F : FTy → Type} [FloatOps F] (main_arg0 : FVec F S262144x16 .f32) (main_arg1 : IVec S262144 32) (main_arg2 : FVec F S500x16x16 .f32) (main_arg3 : FVec F S500x16x16 .f32) (main_arg4 : FVec F S500x16x16 .f32) : IVec S_ 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 32 := constantI S_ 32 500#32
  let main_v2 : IVec S262144 32 := broadcastInDim S262144 ![] bcast_S_S262144 main_c_0
  let main_v3 : IVec S262144 1 := cmpi .slt main_arg1 main_v2
  let main_v4 : IVec S262144 1 := andi main_v1 main_v3
  let main_c_1 : IVec S_ 1 := constantI S_ 1 1#1
  let main_v5 : IVec S_ 1 := (fun x v => Host.reduce IntOp.andi x v reducesTo_S262144_S_d0 h_S_) main_v4 main_c_1
  let main_v6 : FVec F S262144x16 .f32 := Host.absf main_arg0
  let main_cst : FVec F S_ .f32 := constant S_ .f32 0x7F800000#32
  let main_v7 : FVec F S262144x16 .f32 := broadcastInDim S262144x16 ![] bcast_S_S262144x16 main_cst
  let main_v8 : IVec S262144x16 1 := cmpf .olt main_v6 main_v7
  let main_c_2 : IVec S_ 1 := constantI S_ 1 1#1
  let main_v9 : IVec S_ 1 := (fun x v => Host.reduce IntOp.andi x v reducesTo_S262144x16_S_d0_1 h_S_) main_v8 main_c_2
  let main_v10 : IVec S_ 1 := andi main_v5 main_v9
  let main_v11 : FVec F S500x16x16 .f32 := Host.absf main_arg2
  let main_cst_3 : FVec F S_ .f32 := constant S_ .f32 0x7F800000#32
  let main_v12 : FVec F S500x16x16 .f32 := broadcastInDim S500x16x16 ![] bcast_S_S500x16x16 main_cst_3
  let main_v13 : IVec S500x16x16 1 := cmpf .olt main_v11 main_v12
  let main_c_4 : IVec S_ 1 := constantI S_ 1 1#1
  let main_v14 : IVec S_ 1 := (fun x v => Host.reduce IntOp.andi x v reducesTo_S500x16x16_S_d0_1_2 h_S_) main_v13 main_c_4
  let main_v15 : IVec S_ 1 := andi main_v10 main_v14
  let main_v16 : FVec F S500x16x16 .f32 := Host.absf main_arg3
  fn_part1 (F := F) main_arg2 main_arg3 main_arg4 main_v15 main_v16
-- ==== Pre_in_range.lean ====
abbrev S262144x16 : Shape := ⟨2, ![262144, 16]⟩
abbrev S262144 : Shape := ⟨1, ![262144]⟩
abbrev S500x16x16 : Shape := ⟨3, ![500, 16, 16]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S262144x16 .f32) (main_arg1 : IVec S262144 32) (main_arg2 : FVec F S500x16x16 .f32) (main_arg3 : FVec F S500x16x16 .f32) (main_arg4 : FVec F S500x16x16 .f32) : IVec S_ 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 32 := constantI S_ 32 500#32
  let main_v2 : IVec S262144 32 := broadcastInDim S262144 ![] bcast_S_S262144 main_c_0
  let main_v3 : IVec S262144 1 := cmpi .slt main_arg1 main_v2
  let main_v4 : IVec S262144 1 := andi main_v1 main_v3
  let main_c_1 : IVec S_ 1 := constantI S_ 1 1#1
  let main_v5 : IVec S_ 1 := (fun x v => Host.reduce IntOp.andi x v reducesTo_S262144_S_d0 h_S_) main_v4 main_c_1
  main_v5
-- ==== Kernel.lean ====
abbrev S262144x16 : Shape := ⟨2, ![262144, 16]⟩
abbrev S262144 : Shape := ⟨1, ![262144]⟩
abbrev S500x16x16 : Shape := ⟨3, ![500, 16, 16]⟩
abbrev S512x48 : Shape := ⟨2, ![512, 48]⟩
abbrev S500x1x1 : Shape := ⟨3, ![500, 1, 1]⟩
abbrev S500 : Shape := ⟨1, ![500]⟩
abbrev S500x1 : Shape := ⟨2, ![500, 1]⟩
abbrev S500x6 : Shape := ⟨2, ![500, 6]⟩
abbrev S_ : Shape := ⟨0, ![]⟩
abbrev S6x512 : Shape := ⟨2, ![6, 512]⟩
abbrev S6x500 : Shape := ⟨2, ![6, 500]⟩
abbrev S1 : Shape := ⟨1, ![1]⟩
abbrev S3072 : Shape := ⟨1, ![3072]⟩
abbrev S6x262144 : Shape := ⟨2, ![6, 262144]⟩
abbrev S8192 : Shape := ⟨1, ![8192]⟩
abbrev S6x8192 : Shape := ⟨2, ![6, 8192]⟩
abbrev S16 : Shape := ⟨1, ![16]⟩
abbrev S1x16 : Shape := ⟨2, ![1, 16]⟩
abbrev S6x2048 : Shape := ⟨2, ![6, 2048]⟩
abbrev S16x262144 : Shape := ⟨2, ![16, 262144]⟩
abbrev S256x262144 : Shape := ⟨2, ![256, 262144]⟩
abbrev S16x16384 : Shape := ⟨2, ![16, 16384]⟩
abbrev S6x16384 : Shape := ⟨2, ![6, 16384]⟩
abbrev S256x16384 : Shape := ⟨2, ![256, 16384]⟩
abbrev S16384 : Shape := ⟨1, ![16384]⟩
abbrev S1x16384 : Shape := ⟨2, ![1, 16384]⟩
abbrev S48x16384 : Shape := ⟨2, ![48, 16384]⟩
abbrev S512x16384 : Shape := ⟨2, ![512, 16384]⟩
abbrev S16x16x262144 : Shape := ⟨3, ![16, 16, 262144]⟩
abbrev S262144x16x16 : Shape := ⟨3, ![262144, 16, 16]⟩

abbrev nBuf : Table → Nat
  | .hbm => 37
  | .local .tc .vmem => 7
  | .local .scVector .vmem => 3
  | _ => 0

abbrev bufTy : (tb : Table) → Fin (nBuf tb) → BufTy
  | .hbm, ⟨0, _⟩ => ⟨S262144x16, .f32⟩
  | .hbm, ⟨1, _⟩ => ⟨S262144, .i32⟩
  | .hbm, ⟨2, _⟩ => ⟨S500x16x16, .f32⟩
  | .hbm, ⟨3, _⟩ => ⟨S500x16x16, .f32⟩
  | .hbm, ⟨4, _⟩ => ⟨S500x16x16, .f32⟩
  | .hbm, ⟨5, _⟩ => ⟨S512x48, .f32⟩
  | .hbm, ⟨6, _⟩ => ⟨S500x1x1, .f32⟩
  | .hbm, ⟨7, _⟩ => ⟨S500, .f32⟩
  | .hbm, ⟨8, _⟩ => ⟨S500x1x1, .f32⟩
  | .hbm, ⟨9, _⟩ => ⟨S500, .f32⟩
  | .hbm, ⟨10, _⟩ => ⟨S500x1x1, .f32⟩
  | .hbm, ⟨11, _⟩ => ⟨S500, .f32⟩
  | .hbm, ⟨12, _⟩ => ⟨S500x1x1, .f32⟩
  | .hbm, ⟨13, _⟩ => ⟨S500, .f32⟩
  | .hbm, ⟨14, _⟩ => ⟨S500x1x1, .f32⟩
  | .hbm, ⟨15, _⟩ => ⟨S500, .f32⟩
  | .hbm, ⟨16, _⟩ => ⟨S500x1x1, .f32⟩
  | .hbm, ⟨17, _⟩ => ⟨S500, .f32⟩
  | .hbm, ⟨18, _⟩ => ⟨S500x1, .f32⟩
  | .hbm, ⟨19, _⟩ => ⟨S500x1, .f32⟩
  | .hbm, ⟨20, _⟩ => ⟨S500x1, .f32⟩
  | .hbm, ⟨21, _⟩ => ⟨S500x1, .f32⟩
  | .hbm, ⟨22, _⟩ => ⟨S500x1, .f32⟩
  | .hbm, ⟨23, _⟩ => ⟨S500x1, .f32⟩
  | .hbm, ⟨24, _⟩ => ⟨S500x6, .f32⟩
  | .hbm, ⟨25, _⟩ => ⟨S_, .f32⟩
  | .hbm, ⟨26, _⟩ => ⟨S6x512, .f32⟩
  | .hbm, ⟨27, _⟩ => ⟨S6x500, .f32⟩
  | .hbm, ⟨28, _⟩ => ⟨S_, .i32⟩
  | .hbm, ⟨29, _⟩ => ⟨S1, .i32⟩
  | .hbm, ⟨30, _⟩ => ⟨S6x512, .f32⟩
  | .hbm, ⟨31, _⟩ => ⟨S3072, .f32⟩
  | .hbm, ⟨32, _⟩ => ⟨S6x262144, .f32⟩
  | .hbm, ⟨33, _⟩ => ⟨S16x262144, .f32⟩
  | .hbm, ⟨34, _⟩ => ⟨S256x262144, .f32⟩
  | .hbm, ⟨35, _⟩ => ⟨S16x16x262144, .f32⟩
  | .hbm, ⟨36, _⟩ => ⟨S262144x16x16, .f32⟩
  | .local .tc .vmem, ⟨0, _⟩ => ⟨S16x16384, .f32⟩
  | .local .tc .vmem, ⟨1, _⟩ => ⟨S16x16384, .f32⟩
  | .local .tc .vmem, ⟨2, _⟩ => ⟨S6x16384, .f32⟩
  | .local .tc .vmem, ⟨3, _⟩ => ⟨S6x16384, .f32⟩
  | .local .tc .vmem, ⟨4, _⟩ => ⟨S512x48, .f32⟩
  | .local .tc .vmem, ⟨5, _⟩ => ⟨S256x16384, .f32⟩
  | .local .tc .vmem, ⟨6, _⟩ => ⟨S256x16384, .f32⟩
  | .local .scVector .vmem, ⟨0, _⟩ => ⟨S3072, .f32⟩
  | .local .scVector .vmem, ⟨1, _⟩ => ⟨S8192, .i32⟩
  | .local .scVector .vmem, ⟨2, _⟩ => ⟨S6x8192, .f32⟩
  | _, _ => ⟨S262144x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v23_scv : Ref sig .scVector := ⟨.hbm, 31, rfl⟩
abbrev main_arg1_scv : Ref sig .scVector := ⟨.hbm, 1, rfl⟩
abbrev main_v24_scv : Ref sig .scVector := ⟨.hbm, 32, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_67 : BitVec 32 := 0#32
  let c0_i32_0 : BitVec 32 := 0#32
  let c1_i32 : BitVec 32 := 1#32
  let arg9 : BitVec 32 := Scf.iv c0_i32_0 c1_i32 k0_t1
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c0_i32_67 v45
  let v47 : Index := Scalar.indexCast v46
  ![v47.toNat]

def k0_chk1 (v50 : IVec S16 32) : Prop :=
  (∀ a x, ((![v50] : Fin 1 → IVec S16 32) a x).toNat < S3072.size a)
theorem k0_idx1_inb : ∀ (v50 : IVec S16 32) (k0_hw1 : k0_chk1 v50), ∀ a x, ((![v50] : Fin 1 → IVec S16 32) a x).toNat < S3072.size a := fun v50 k0_hw1 => k0_hw1
def k0_off3 (k0_t1 : Fin k0_t1_loop.trips) : Fin 2 → Nat :=
  let c0_i32_69 : BitVec 32 := 0#32
  let v52 : Index := Scalar.indexCast c0_i32_69
  let c0_i32_67 : BitVec 32 := 0#32
  let c0_i32_0 : BitVec 32 := 0#32
  let c1_i32 : BitVec 32 := 1#32
  let arg9 : BitVec 32 := Scf.iv c0_i32_0 c1_i32 k0_t1
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c0_i32_67 v45
  let v53 : Index := Scalar.indexCast v46
  ![0, v53.toNat]

def k0_chk2 (v56 : IVec S16 32) : Prop :=
  (∀ a x, ((![v56] : Fin 1 → IVec S16 32) a x).toNat < S3072.size a)
theorem k0_idx2_inb : ∀ (v56 : IVec S16 32) (k0_hw2 : k0_chk2 v56), ∀ a x, ((![v56] : Fin 1 → IVec S16 32) a x).toNat < S3072.size a := fun v56 k0_hw2 => k0_hw2
def k0_off4 (k0_t1 : Fin k0_t1_loop.trips) : Fin 2 → Nat :=
  let c1_i32_70 : BitVec 32 := 1#32
  let v58 : Index := Scalar.indexCast c1_i32_70
  let c0_i32_67 : BitVec 32 := 0#32
  let c0_i32_0 : BitVec 32 := 0#32
  let c1_i32 : BitVec 32 := 1#32
  let arg9 : BitVec 32 := Scf.iv c0_i32_0 c1_i32 k0_t1
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c0_i32_67 v45
  let v59 : Index := Scalar.indexCast v46
  ![1, v59.toNat]

def k0_chk3 (v62 : IVec S16 32) : Prop :=
  (∀ a x, ((![v62] : Fin 1 → IVec S16 32) a x).toNat < S3072.size a)
theorem k0_idx3_inb : ∀ (v62 : IVec S16 32) (k0_hw3 : k0_chk3 v62), ∀ a x, ((![v62] : Fin 1 → IVec S16 32) a x).toNat < S3072.size a := fun v62 k0_hw3 => k0_hw3
def k0_off5 (k0_t1 : Fin k0_t1_loop.trips) : Fin 2 → Nat :=
  let c2_i32_71 : BitVec 32 := 2#32
  let v64 : Index := Scalar.indexCast c2_i32_71
  let c0_i32_67 : BitVec 32 := 0#32
  let c0_i32_0 : BitVec 32 := 0#32
  let c1_i32 : BitVec 32 := 1#32
  let arg9 : BitVec 32 := Scf.iv c0_i32_0 c1_i32 k0_t1
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c0_i32_67 v45
  let v65 : Index := Scalar.indexCast v46
  ![2, v65.toNat]

def k0_chk4 (v68 : IVec S16 32) : Prop :=
  (∀ a x, ((![v68] : Fin 1 → IVec S16 32) a x).toNat < S3072.size a)
theorem k0_idx4_inb : ∀ (v68 : IVec S16 32) (k0_hw4 : k0_chk4 v68), ∀ a x, ((![v68] : Fin 1 → IVec S16 32) a x).toNat < S3072.size a := fun v68 k0_hw4 => k0_hw4
def k0_off6 (k0_t1 : Fin k0_t1_loop.trips) : Fin 2 → Nat :=
  let c3_i32 : BitVec 32 := 3#32
  let v70 : Index := Scalar.indexCast c3_i32
  let c0_i32_67 : BitVec 32 := 0#32
  let c0_i32_0 : BitVec 32 := 0#32
  let c1_i32 : BitVec 32 := 1#32
  let arg9 : BitVec 32 := Scf.iv c0_i32_0 c1_i32 k0_t1
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c0_i32_67 v45
  let v71 : Index := Scalar.indexCast v46
  ![3, v71.toNat]

def k0_chk5 (v74 : IVec S16 32) : Prop :=
  (∀ a x, ((![v74] : Fin 1 → IVec S16 32) a x).toNat < S3072.size a)
theorem k0_idx5_inb : ∀ (v74 : IVec S16 32) (k0_hw5 : k0_chk5 v74), ∀ a x, ((![v74] : Fin 1 → IVec S16 32) a x).toNat < S3072.size a := fun v74 k0_hw5 => k0_hw5
def k0_off7 (k0_t1 : Fin k0_t1_loop.trips) : Fin 2 → Nat :=
  let c4_i32_73 : BitVec 32 := 4#32
  let v76 : Index := Scalar.indexCast c4_i32_73
  let c0_i32_67 : BitVec 32 := 0#32
  let c0_i32_0 : BitVec 32 := 0#32
  let c1_i32 : BitVec 32 := 1#32
  let arg9 : BitVec 32 := Scf.iv c0_i32_0 c1_i32 k0_t1
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c0_i32_67 v45
  let v77 : Index := Scalar.indexCast v46
  ![4, v77.toNat]

def k0_chk6 (v80 : IVec S16 32) : Prop :=
  (∀ a x, ((![v80] : Fin 1 → IVec S16 32) a x).toNat < S3072.size a)
theorem k0_idx6_inb : ∀ (v80 : IVec S16 32) (k0_hw6 : k0_chk6 v80), ∀ a x, ((![v80] : Fin 1 → IVec S16 32) a x).toNat < S3072.size a := fun v80 k0_hw6 => k0_hw6
def k0_off8 (k0_t1 : Fin k0_t1_loop.trips) : Fin 2 → Nat :=
  let c5_i32 : BitVec 32 := 5#32
  let v82 : Index := Scalar.indexCast c5_i32
  let c0_i32_67 : BitVec 32 := 0#32
  let c0_i32_0 : BitVec 32 := 0#32
  let c1_i32 : BitVec 32 := 1#32
  let arg9 : BitVec 32 := Scf.iv c0_i32_0 c1_i32 k0_t1
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c0_i32_67 v45
  let v83 : Index := Scalar.indexCast v46
  ![5, v83.toNat]
def k0_off9 (k0_t1 : Fin k0_t1_loop.trips) : Fin 1 → Nat :=
  let c0_i32_77 : BitVec 32 := 0#32
  let c0_i32_0 : BitVec 32 := 0#32
  let c1_i32 : BitVec 32 := 1#32
  let arg9 : BitVec 32 := Scf.iv c0_i32_0 c1_i32 k0_t1
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c0_i32_77 v87
  let v89 : Index := Scalar.indexCast v88
  ![v89.toNat]

def k0_chk7 (v92 : IVec S16 32) : Prop :=
  (∀ a x, ((![v92] : Fin 1 → IVec S16 32) a x).toNat < S3072.size a)
theorem k0_idx7_inb : ∀ (v92 : IVec S16 32) (k0_hw7 : k0_chk7 v92), ∀ a x, ((![v92] : Fin 1 → IVec S16 32) a x).toNat < S3072.size a := fun v92 k0_hw7 => k0_hw7
def k0_off10 (k0_t1 : Fin k0_t1_loop.trips) : Fin 2 → Nat :=
  let c0_i32_79 : BitVec 32 := 0#32
  let v94 : Index := Scalar.indexCast c0_i32_79
  let c0_i32_77 : BitVec 32 := 0#32
  let c0_i32_0 : BitVec 32 := 0#32
  let c1_i32 : BitVec 32 := 1#32
  let arg9 : BitVec 32 := Scf.iv c0_i32_0 c1_i32 k0_t1
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c0_i32_77 v87
  let v95 : Index := Scalar.indexCast v88
  ![0, v95.toNat]

def k0_chk8 (v98 : IVec S16 32) : Prop :=
  (∀ a x, ((![v98] : Fin 1 → IVec S16 32) a x).toNat < S3072.size a)
theorem k0_idx8_inb : ∀ (v98 : IVec S16 32) (k0_hw8 : k0_chk8 v98), ∀ a x, ((![v98] : Fin 1 → IVec S16 32) a x).toNat < S3072.size a := fun v98 k0_hw8 => k0_hw8
def k0_off11 (k0_t1 : Fin k0_t1_loop.trips) : Fin 2 → Nat :=
  let c1_i32_81 : BitVec 32 := 1#32
  let v100 : Index := Scalar.indexCast c1_i32_81
  let c0_i32_77 : BitVec 32 := 0#32
  let c0_i32_0 : BitVec 32 := 0#32
  let c1_i32 : BitVec 32 := 1#32
  let arg9 : BitVec 32 := Scf.iv c0_i32_0 c1_i32 k0_t1
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c0_i32_77 v87
  let v101 : Index := Scalar.indexCast v88
  ![1, v101.toNat]

def k0_chk9 (v104 : IVec S16 32) : Prop :=
  (∀ a x, ((![v104] : Fin 1 → IVec S16 32) a x).toNat < S3072.size a)
theorem k0_idx9_inb : ∀ (v104 : IVec S16 32) (k0_hw9 : k0_chk9 v104), ∀ a x, ((![v104] : Fin 1 → IVec S16 32) a x).toNat < S3072.size a := fun v104 k0_hw9 => k0_hw9
def k0_off12 (k0_t1 : Fin k0_t1_loop.trips) : Fin 2 → Nat :=
  let c2_i32_83 : BitVec 32 := 2#32
  let v106 : Index := Scalar.indexCast c2_i32_83
  let c0_i32_77 : BitVec 32 := 0#32
  let c0_i32_0 : BitVec 32 := 0#32
  let c1_i32 : BitVec 32 := 1#32
  let arg9 : BitVec 32 := Scf.iv c0_i32_0 c1_i32 k0_t1
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c0_i32_77 v87
  let v107 : Index := Scalar.indexCast v88
  ![2, v107.toNat]

def k0_chk10 (v110 : IVec S16 32) : Prop :=
  (∀ a x, ((![v110] : Fin 1 → IVec S16 32) a x).toNat < S3072.size a)
theorem k0_idx10_inb : ∀ (v110 : IVec S16 32) (k0_hw10 : k0_chk10 v110), ∀ a x, ((![v110] : Fin 1 → IVec S16 32) a x).toNat < S3072.size a := fun v110 k0_hw10 => k0_hw10
def k0_off13 (k0_t1 : Fin k0_t1_loop.trips) : Fin 2 → Nat :=
  let c3_i32_85 : BitVec 32 := 3#32
  let v112 : Index := Scalar.indexCast c3_i32_85
  let c0_i32_77 : BitVec 32 := 0#32
  let c0_i32_0 : BitVec 32 := 0#32
  let c1_i32 : BitVec 32 := 1#32
  let arg9 : BitVec 32 := Scf.iv c0_i32_0 c1_i32 k0_t1
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c0_i32_77 v87
  let v113 : Index := Scalar.indexCast v88
  ![3, v113.toNat]

def k0_chk11 (v116 : IVec S16 32) : Prop :=
  (∀ a x, ((![v116] : Fin 1 → IVec S16 32) a x).toNat < S3072.size a)
theorem k0_idx11_inb : ∀ (v116 : IVec S16 32) (k0_hw11 : k0_chk11 v116), ∀ a x, ((![v116] : Fin 1 → IVec S16 32) a x).toNat < S3072.size a := fun v116 k0_hw11 => k0_hw11
def k0_off14 (k0_t1 : Fin k0_t1_loop.trips) : Fin 2 → Nat :=
  let c4_i32_87 : BitVec 32 := 4#32
  let v118 : Index := Scalar.indexCast c4_i32_87
  let c0_i32_77 : BitVec 32 := 0#32
  let c0_i32_0 : BitVec 32 := 0#32
  let c1_i32 : BitVec 32 := 1#32
  let arg9 : BitVec 32 := Scf.iv c0_i32_0 c1_i32 k0_t1
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c0_i32_77 v87
  let v119 : Index := Scalar.indexCast v88
  ![4, v119.toNat]

def k0_chk12 (v122 : IVec S16 32) : Prop :=
  (∀ a x, ((![v122] : Fin 1 → IVec S16 32) a x).toNat < S3072.size a)
theorem k0_idx12_inb : ∀ (v122 : IVec S16 32) (k0_hw12 : k0_chk12 v122), ∀ a x, ((![v122] : Fin 1 → IVec S16 32) a x).toNat < S3072.size a := fun v122 k0_hw12 => k0_hw12
def k0_off15 (k0_t1 : Fin k0_t1_loop.trips) : Fin 2 → Nat :=
  let c5_i32_89 : BitVec 32 := 5#32
  let v124 : Index := Scalar.indexCast c5_i32_89
  let c0_i32_77 : BitVec 32 := 0#32
  let c0_i32_0 : BitVec 32 := 0#32
  let c1_i32 : BitVec 32 := 1#32
  let arg9 : BitVec 32 := Scf.iv c0_i32_0 c1_i32 k0_t1
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c0_i32_77 v87
  let v125 : Index := Scalar.indexCast v88
  ![5, v125.toNat]
def k0_off16 (k0_t1 : Fin k0_t1_loop.trips) : Fin 1 → Nat :=
  let c0_i32_93 : BitVec 32 := 0#32
  let c0_i32_0 : BitVec 32 := 0#32
  let c1_i32 : BitVec 32 := 1#32
  let arg9 : BitVec 32 := Scf.iv c0_i32_0 c1_i32 k0_t1
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c0_i32_93 v129
  let v131 : Index := Scalar.indexCast v130
  ![v131.toNat]

def k0_chk13 (v134 : IVec S16 32) : Prop :=
  (∀ a x, ((![v134] : Fin 1 → IVec S16 32) a x).toNat < S3072.size a)
theorem k0_idx13_inb : ∀ (v134 : IVec S16 32) (k0_hw13 : k0_chk13 v134), ∀ a x, ((![v134] : Fin 1 → IVec S16 32) a x).toNat < S3072.size a := fun v134 k0_hw13 => k0_hw13
def k0_off17 (k0_t1 : Fin k0_t1_loop.trips) : Fin 2 → Nat :=
  let c0_i32_95 : BitVec 32 := 0#32
  let v136 : Index := Scalar.indexCast c0_i32_95
  let c0_i32_93 : BitVec 32 := 0#32
  let c0_i32_0 : BitVec 32 := 0#32
  let c1_i32 : BitVec 32 := 1#32
  let arg9 : BitVec 32 := Scf.iv c0_i32_0 c1_i32 k0_t1
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c0_i32_93 v129
  let v137 : Index := Scalar.indexCast v130
  ![0, v137.toNat]

def k0_chk14 (v140 : IVec S16 32) : Prop :=
  (∀ a x, ((![v140] : Fin 1 → IVec S16 32) a x).toNat < S3072.size a)
theorem k0_idx14_inb : ∀ (v140 : IVec S16 32) (k0_hw14 : k0_chk14 v140), ∀ a x, ((![v140] : Fin 1 → IVec S16 32) a x).toNat < S3072.size a := fun v140 k0_hw14 => k0_hw14
def k0_off18 (k0_t1 : Fin k0_t1_loop.trips) : Fin 2 → Nat :=
  let c1_i32_97 : BitVec 32 := 1#32
  let v142 : Index := Scalar.indexCast c1_i32_97
  let c0_i32_93 : BitVec 32 := 0#32
  let c0_i32_0 : BitVec 32 := 0#32
  let c1_i32 : BitVec 32 := 1#32
  let arg9 : BitVec 32 := Scf.iv c0_i32_0 c1_i32 k0_t1
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c0_i32_93 v129
  let v143 : Index := Scalar.indexCast v130
  ![1, v143.toNat]

def k0_chk15 (v146 : IVec S16 32) : Prop :=
  (∀ a x, ((![v146] : Fin 1 → IVec S16 32) a x).toNat < S3072.size a)
theorem k0_idx15_inb : ∀ (v146 : IVec S16 32) (k0_hw15 : k0_chk15 v146), ∀ a x, ((![v146] : Fin 1 → IVec S16 32) a x).toNat < S3072.size a := fun v146 k0_hw15 => k0_hw15
def k0_off19 (k0_t1 : Fin k0_t1_loop.trips) : Fin 2 → Nat :=
  let c2_i32_99 : BitVec 32 := 2#32
  let v148 : Index := Scalar.indexCast c2_i32_99
  let c0_i32_93 : BitVec 32 := 0#32
  let c0_i32_0 : BitVec 32 := 0#32
  let c1_i32 : BitVec 32 := 1#32
  let arg9 : BitVec 32 := Scf.iv c0_i32_0 c1_i32 k0_t1
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c0_i32_93 v129
  let v149 : Index := Scalar.indexCast v130
  ![2, v149.toNat]

def k0_chk16 (v152 : IVec S16 32) : Prop :=
  (∀ a x, ((![v152] : Fin 1 → IVec S16 32) a x).toNat < S3072.size a)
theorem k0_idx16_inb : ∀ (v152 : IVec S16 32) (k0_hw16 : k0_chk16 v152), ∀ a x, ((![v152] : Fin 1 → IVec S16 32) a x).toNat < S3072.size a := fun v152 k0_hw16 => k0_hw16
def k0_off20 (k0_t1 : Fin k0_t1_loop.trips) : Fin 2 → Nat :=
  let c3_i32_101 : BitVec 32 := 3#32
  let v154 : Index := Scalar.indexCast c3_i32_101
  let c0_i32_93 : BitVec 32 := 0#32
  let c0_i32_0 : BitVec 32 := 0#32
  let c1_i32 : BitVec 32 := 1#32
  let arg9 : BitVec 32 := Scf.iv c0_i32_0 c1_i32 k0_t1
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c0_i32_93 v129
  let v155 : Index := Scalar.indexCast v130
  ![3, v155.toNat]

def k0_chk17 (v158 : IVec S16 32) : Prop :=
  (∀ a x, ((![v158] : Fin 1 → IVec S16 32) a x).toNat < S3072.size a)
theorem k0_idx17_inb : ∀ (v158 : IVec S16 32) (k0_hw17 : k0_chk17 v158), ∀ a x, ((![v158] : Fin 1 → IVec S16 32) a x).toNat < S3072.size a := fun v158 k0_hw17 => k0_hw17
def k0_off21 (k0_t1 : Fin k0_t1_loop.trips) : Fin 2 → Nat :=
  let c4_i32_103 : BitVec 32 := 4#32
  let v160 : Index := Scalar.indexCast c4_i32_103
  let c0_i32_93 : BitVec 32 := 0#32
  let c0_i32_0 : BitVec 32 := 0#32
  let c1_i32 : BitVec 32 := 1#32
  let arg9 : BitVec 32 := Scf.iv c0_i32_0 c1_i32 k0_t1
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c0_i32_93 v129
  let v161 : Index := Scalar.indexCast v130
  ![4, v161.toNat]

def k0_chk18 (v164 : IVec S16 32) : Prop :=
  (∀ a x, ((![v164] : Fin 1 → IVec S16 32) a x).toNat < S3072.size a)
theorem k0_idx18_inb : ∀ (v164 : IVec S16 32) (k0_hw18 : k0_chk18 v164), ∀ a x, ((![v164] : Fin 1 → IVec S16 32) a x).toNat < S3072.size a := fun v164 k0_hw18 => k0_hw18
def k0_off22 (k0_t1 : Fin k0_t1_loop.trips) : Fin 2 → Nat :=
  let c5_i32_105 : BitVec 32 := 5#32
  let v166 : Index := Scalar.indexCast c5_i32_105
  let c0_i32_93 : BitVec 32 := 0#32
  let c0_i32_0 : BitVec 32 := 0#32
  let c1_i32 : BitVec 32 := 1#32
  let arg9 : BitVec 32 := Scf.iv c0_i32_0 c1_i32 k0_t1
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c0_i32_93 v129
  let v167 : Index := Scalar.indexCast v130
  ![5, v167.toNat]
def k0_off23 (k0_t1 : Fin k0_t1_loop.trips) : Fin 1 → Nat :=
  let c0_i32_109 : BitVec 32 := 0#32
  let c0_i32_0 : BitVec 32 := 0#32
  let c1_i32 : BitVec 32 := 1#32
  let arg9 : BitVec 32 := Scf.iv c0_i32_0 c1_i32 k0_t1
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c0_i32_109 v171
  let v173 : Index := Scalar.indexCast v172
  ![v173.toNat]

def k0_chk19 (v176 : IVec S16 32) : Prop :=
  (∀ a x, ((![v176] : Fin 1 → IVec S16 32) a x).toNat < S3072.size a)
theorem k0_idx19_inb : ∀ (v176 : IVec S16 32) (k0_hw19 : k0_chk19 v176), ∀ a x, ((![v176] : Fin 1 → IVec S16 32) a x).toNat < S3072.size a := fun v176 k0_hw19 => k0_hw19
def k0_off24 (k0_t1 : Fin k0_t1_loop.trips) : Fin 2 → Nat :=
  let c0_i32_111 : BitVec 32 := 0#32
  let v178 : Index := Scalar.indexCast c0_i32_111
  let c0_i32_109 : BitVec 32 := 0#32
  let c0_i32_0 : BitVec 32 := 0#32
  let c1_i32 : BitVec 32 := 1#32
  let arg9 : BitVec 32 := Scf.iv c0_i32_0 c1_i32 k0_t1
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c0_i32_109 v171
  let v179 : Index := Scalar.indexCast v172
  ![0, v179.toNat]

def k0_chk20 (v182 : IVec S16 32) : Prop :=
  (∀ a x, ((![v182] : Fin 1 → IVec S16 32) a x).toNat < S3072.size a)
theorem k0_idx20_inb : ∀ (v182 : IVec S16 32) (k0_hw20 : k0_chk20 v182), ∀ a x, ((![v182] : Fin 1 → IVec S16 32) a x).toNat < S3072.size a := fun v182 k0_hw20 => k0_hw20
def k0_off25 (k0_t1 : Fin k0_t1_loop.trips) : Fin 2 → Nat :=
  let c1_i32_113 : BitVec 32 := 1#32
  let v184 : Index := Scalar.indexCast c1_i32_113
  let c0_i32_109 : BitVec 32 := 0#32
  let c0_i32_0 : BitVec 32 := 0#32
  let c1_i32 : BitVec 32 := 1#32
  let arg9 : BitVec 32 := Scf.iv c0_i32_0 c1_i32 k0_t1
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c0_i32_109 v171
  let v185 : Index := Scalar.indexCast v172
  ![1, v185.toNat]

def k0_chk21 (v188 : IVec S16 32) : Prop :=
  (∀ a x, ((![v188] : Fin 1 → IVec S16 32) a x).toNat < S3072.size a)
theorem k0_idx21_inb : ∀ (v188 : IVec S16 32) (k0_hw21 : k0_chk21 v188), ∀ a x, ((![v188] : Fin 1 → IVec S16 32) a x).toNat < S3072.size a := fun v188 k0_hw21 => k0_hw21
def k0_off26 (k0_t1 : Fin k0_t1_loop.trips) : Fin 2 → Nat :=
  let c2_i32_115 : BitVec 32 := 2#32
  let v190 : Index := Scalar.indexCast c2_i32_115
  let c0_i32_109 : BitVec 32 := 0#32
  let c0_i32_0 : BitVec 32 := 0#32
  let c1_i32 : BitVec 32 := 1#32
  let arg9 : BitVec 32 := Scf.iv c0_i32_0 c1_i32 k0_t1
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c0_i32_109 v171
  let v191 : Index := Scalar.indexCast v172
  ![2, v191.toNat]

def k0_chk22 (v194 : IVec S16 32) : Prop :=
  (∀ a x, ((![v194] : Fin 1 → IVec S16 32) a x).toNat < S3072.size a)
theorem k0_idx22_inb : ∀ (v194 : IVec S16 32) (k0_hw22 : k0_chk22 v194), ∀ a x, ((![v194] : Fin 1 → IVec S16 32) a x).toNat < S3072.size a := fun v194 k0_hw22 => k0_hw22
def k0_off27 (k0_t1 : Fin k0_t1_loop.trips) : Fin 2 → Nat :=
  let c3_i32_117 : BitVec 32 := 3#32
  let v196 : Index := Scalar.indexCast c3_i32_117
  let c0_i32_109 : BitVec 32 := 0#32
  let c0_i32_0 : BitVec 32 := 0#32
  let c1_i32 : BitVec 32 := 1#32
  let arg9 : BitVec 32 := Scf.iv c0_i32_0 c1_i32 k0_t1
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c0_i32_109 v171
  let v197 : Index := Scalar.indexCast v172
  ![3, v197.toNat]

def k0_chk23 (v200 : IVec S16 32) : Prop :=
  (∀ a x, ((![v200] : Fin 1 → IVec S16 32) a x).toNat < S3072.size a)
theorem k0_idx23_inb : ∀ (v200 : IVec S16 32) (k0_hw23 : k0_chk23 v200), ∀ a x, ((![v200] : Fin 1 → IVec S16 32) a x).toNat < S3072.size a := fun v200 k0_hw23 => k0_hw23
def k0_off28 (k0_t1 : Fin k0_t1_loop.trips) : Fin 2 → Nat :=
  let c4_i32_119 : BitVec 32 := 4#32
  let v202 : Index := Scalar.indexCast c4_i32_119
  let c0_i32_109 : BitVec 32 := 0#32
  let c0_i32_0 : BitVec 32 := 0#32
  let c1_i32 : BitVec 32 := 1#32
  let arg9 : BitVec 32 := Scf.iv c0_i32_0 c1_i32 k0_t1
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c0_i32_109 v171
  let v203 : Index := Scalar.indexCast v172
  ![4, v203.toNat]

def k0_chk24 (v206 : IVec S16 32) : Prop :=
  (∀ a x, ((![v206] : Fin 1 → IVec S16 32) a x).toNat < S3072.size a)
theorem k0_idx24_inb : ∀ (v206 : IVec S16 32) (k0_hw24 : k0_chk24 v206), ∀ a x, ((![v206] : Fin 1 → IVec S16 32) a x).toNat < S3072.size a := fun v206 k0_hw24 => k0_hw24
def k0_off29 (k0_t1 : Fin k0_t1_loop.trips) : Fin 2 → Nat :=
  let c5_i32_121 : BitVec 32 := 5#32
  let v208 : Index := Scalar.indexCast c5_i32_121
  let c0_i32_109 : BitVec 32 := 0#32
  let c0_i32_0 : BitVec 32 := 0#32
  let c1_i32 : BitVec 32 := 1#32
  let arg9 : BitVec 32 := Scf.iv c0_i32_0 c1_i32 k0_t1
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c0_i32_109 v171
  let v209 : Index := Scalar.indexCast v172
  ![5, v209.toNat]
def k0_off30 (i : grid0.Coords) (c0_i32_2 : BitVec 32) : Fin 2 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v4 : BitVec 32 := Scalar.addi v2 c0_i32_2
  ![0, v4.toNat]
@[reducible] def k0_t2_loop : Scf.Loop 32 :=
  let c0_i32_10 : BitVec 32 := 0#32
  let c32_i32_11 : BitVec 32 := 32#32
  let v9 : BitVec 32 := Scalar.addi c0_i32_10 c32_i32_11
  let c1_i32_12 : BitVec 32 := 1#32
  ⟨c0_i32_10, v9, c1_i32_12⟩
def k0_off31 (k0_t2 : Fin k0_t2_loop.trips) : Fin 1 → Nat :=
  let c2048_i32_67 : BitVec 32 := 2048#32
  let c0_i32_10 : BitVec 32 := 0#32
  let c1_i32_12 : BitVec 32 := 1#32
  let arg9 : BitVec 32 := Scf.iv c0_i32_10 c1_i32_12 k0_t2
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c2048_i32_67 v45
  let v47 : Index := Scalar.indexCast v46
  ![v47.toNat]

def k0_chk25 (v50 : IVec S16 32) : Prop :=
  (∀ a x, ((![v50] : Fin 1 → IVec S16 32) a x).toNat < S3072.size a)
theorem k0_idx25_inb : ∀ (v50 : IVec S16 32) (k0_hw25 : k0_chk25 v50), ∀ a x, ((![v50] : Fin 1 → IVec S16 32) a x).toNat < S3072.size a := fun v50 k0_hw25 => k0_hw25
def k0_off32 (k0_t2 : Fin k0_t2_loop.trips) : Fin 2 → Nat :=
  let c0_i32_69 : BitVec 32 := 0#32
  let v52 : Index := Scalar.indexCast c0_i32_69
  let c2048_i32_67 : BitVec 32 := 2048#32
  let c0_i32_10 : BitVec 32 := 0#32
  let c1_i32_12 : BitVec 32 := 1#32
  let arg9 : BitVec 32 := Scf.iv c0_i32_10 c1_i32_12 k0_t2
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c2048_i32_67 v45
  let v53 : Index := Scalar.indexCast v46
  ![0, v53.toNat]

def k0_chk26 (v56 : IVec S16 32) : Prop :=
  (∀ a x, ((![v56] : Fin 1 → IVec S16 32) a x).toNat < S3072.size a)
theorem k0_idx26_inb : ∀ (v56 : IVec S16 32) (k0_hw26 : k0_chk26 v56), ∀ a x, ((![v56] : Fin 1 → IVec S16 32) a x).toNat < S3072.size a := fun v56 k0_hw26 => k0_hw26
def k0_off33 (k0_t2 : Fin k0_t2_loop.trips) : Fin 2 → Nat :=
  let c1_i32_70 : BitVec 32 := 1#32
  let v58 : Index := Scalar.indexCast c1_i32_70
  let c2048_i32_67 : BitVec 32 := 2048#32
  let c0_i32_10 : BitVec 32 := 0#32
  let c1_i32_12 : BitVec 32 := 1#32
  let arg9 : BitVec 32 := Scf.iv c0_i32_10 c1_i32_12 k0_t2
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c2048_i32_67 v45
  let v59 : Index := Scalar.indexCast v46
  ![1, v59.toNat]

def k0_chk27 (v62 : IVec S16 32) : Prop :=
  (∀ a x, ((![v62] : Fin 1 → IVec S16 32) a x).toNat < S3072.size a)
theorem k0_idx27_inb : ∀ (v62 : IVec S16 32) (k0_hw27 : k0_chk27 v62), ∀ a x, ((![v62] : Fin 1 → IVec S16 32) a x).toNat < S3072.size a := fun v62 k0_hw27 => k0_hw27
def k0_off34 (k0_t2 : Fin k0_t2_loop.trips) : Fin 2 → Nat :=
  let c2_i32_71 : BitVec 32 := 2#32
  let v64 : Index := Scalar.indexCast c2_i32_71
  let c2048_i32_67 : BitVec 32 := 2048#32
  let c0_i32_10 : BitVec 32 := 0#32
  let c1_i32_12 : BitVec 32 := 1#32
  let arg9 : BitVec 32 := Scf.iv c0_i32_10 c1_i32_12 k0_t2
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c2048_i32_67 v45
  let v65 : Index := Scalar.indexCast v46
  ![2, v65.toNat]

def k0_chk28 (v68 : IVec S16 32) : Prop :=
  (∀ a x, ((![v68] : Fin 1 → IVec S16 32) a x).toNat < S3072.size a)
theorem k0_idx28_inb : ∀ (v68 : IVec S16 32) (k0_hw28 : k0_chk28 v68), ∀ a x, ((![v68] : Fin 1 → IVec S16 32) a x).toNat < S3072.size a := fun v68 k0_hw28 => k0_hw28
def k0_off35 (k0_t2 : Fin k0_t2_loop.trips) : Fin 2 → Nat :=
  let c3_i32 : BitVec 32 := 3#32
  let v70 : Index := Scalar.indexCast c3_i32
  let c2048_i32_67 : BitVec 32 := 2048#32
  let c0_i32_10 : BitVec 32 := 0#32
  let c1_i32_12 : BitVec 32 := 1#32
  let arg9 : BitVec 32 := Scf.iv c0_i32_10 c1_i32_12 k0_t2
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c2048_i32_67 v45
  let v71 : Index := Scalar.indexCast v46
  ![3, v71.toNat]

def k0_chk29 (v74 : IVec S16 32) : Prop :=
  (∀ a x, ((![v74] : Fin 1 → IVec S16 32) a x).toNat < S3072.size a)
theorem k0_idx29_inb : ∀ (v74 : IVec S16 32) (k0_hw29 : k0_chk29 v74), ∀ a x, ((![v74] : Fin 1 → IVec S16 32) a x).toNat < S3072.size a := fun v74 k0_hw29 => k0_hw29
def k0_off36 (k0_t2 : Fin k0_t2_loop.trips) : Fin 2 → Nat :=
  let c4_i32_73 : BitVec 32 := 4#32
  let v76 : Index := Scalar.indexCast c4_i32_73
  let c2048_i32_67 : BitVec 32 := 2048#32
  let c0_i32_10 : BitVec 32 := 0#32
  let c1_i32_12 : BitVec 32 := 1#32
  let arg9 : BitVec 32 := Scf.iv c0_i32_10 c1_i32_12 k0_t2
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c2048_i32_67 v45
  let v77 : Index := Scalar.indexCast v46
  ![4, v77.toNat]

def k0_chk30 (v80 : IVec S16 32) : Prop :=
  (∀ a x, ((![v80] : Fin 1 → IVec S16 32) a x).toNat < S3072.size a)
theorem k0_idx30_inb : ∀ (v80 : IVec S16 32) (k0_hw30 : k0_chk30 v80), ∀ a x, ((![v80] : Fin 1 → IVec S16 32) a x).toNat < S3072.size a := fun v80 k0_hw30 => k0_hw30
def k0_off37 (k0_t2 : Fin k0_t2_loop.trips) : Fin 2 → Nat :=
  let c5_i32 : BitVec 32 := 5#32
  let v82 : Index := Scalar.indexCast c5_i32
  let c2048_i32_67 : BitVec 32 := 2048#32
  let c0_i32_10 : BitVec 32 := 0#32
  let c1_i32_12 : BitVec 32 := 1#32
  let arg9 : BitVec 32 := Scf.iv c0_i32_10 c1_i32_12 k0_t2
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c2048_i32_67 v45
  let v83 : Index := Scalar.indexCast v46
  ![5, v83.toNat]
def k0_off38 (k0_t2 : Fin k0_t2_loop.trips) : Fin 1 → Nat :=
  let c2048_i32_77 : BitVec 32 := 2048#32
  let c0_i32_10 : BitVec 32 := 0#32
  let c1_i32_12 : BitVec 32 := 1#32
  let arg9 : BitVec 32 := Scf.iv c0_i32_10 c1_i32_12 k0_t2
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c2048_i32_77 v87
  let v89 : Index := Scalar.indexCast v88
  ![v89.toNat]

def k0_chk31 (v92 : IVec S16 32) : Prop :=
  (∀ a x, ((![v92] : Fin 1 → IVec S16 32) a x).toNat < S3072.size a)
theorem k0_idx31_inb : ∀ (v92 : IVec S16 32) (k0_hw31 : k0_chk31 v92), ∀ a x, ((![v92] : Fin 1 → IVec S16 32) a x).toNat < S3072.size a := fun v92 k0_hw31 => k0_hw31
def k0_off39 (k0_t2 : Fin k0_t2_loop.trips) : Fin 2 → Nat :=
  let c0_i32_79 : BitVec 32 := 0#32
  let v94 : Index := Scalar.indexCast c0_i32_79
  let c2048_i32_77 : BitVec 32 := 2048#32
  let c0_i32_10 : BitVec 32 := 0#32
  let c1_i32_12 : BitVec 32 := 1#32
  let arg9 : BitVec 32 := Scf.iv c0_i32_10 c1_i32_12 k0_t2
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c2048_i32_77 v87
  let v95 : Index := Scalar.indexCast v88
  ![0, v95.toNat]

def k0_chk32 (v98 : IVec S16 32) : Prop :=
  (∀ a x, ((![v98] : Fin 1 → IVec S16 32) a x).toNat < S3072.size a)
theorem k0_idx32_inb : ∀ (v98 : IVec S16 32) (k0_hw32 : k0_chk32 v98), ∀ a x, ((![v98] : Fin 1 → IVec S16 32) a x).toNat < S3072.size a := fun v98 k0_hw32 => k0_hw32
def k0_off40 (k0_t2 : Fin k0_t2_loop.trips) : Fin 2 → Nat :=
  let c1_i32_81 : BitVec 32 := 1#32
  let v100 : Index := Scalar.indexCast c1_i32_81
  let c2048_i32_77 : BitVec 32 := 2048#32
  let c0_i32_10 : BitVec 32 := 0#32
  let c1_i32_12 : BitVec 32 := 1#32
  let arg9 : BitVec 32 := Scf.iv c0_i32_10 c1_i32_12 k0_t2
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c2048_i32_77 v87
  let v101 : Index := Scalar.indexCast v88
  ![1, v101.toNat]

def k0_chk33 (v104 : IVec S16 32) : Prop :=
  (∀ a x, ((![v104] : Fin 1 → IVec S16 32) a x).toNat < S3072.size a)
theorem k0_idx33_inb : ∀ (v104 : IVec S16 32) (k0_hw33 : k0_chk33 v104), ∀ a x, ((![v104] : Fin 1 → IVec S16 32) a x).toNat < S3072.size a := fun v104 k0_hw33 => k0_hw33
def k0_off41 (k0_t2 : Fin k0_t2_loop.trips) : Fin 2 → Nat :=
  let c2_i32_83 : BitVec 32 := 2#32
  let v106 : Index := Scalar.indexCast c2_i32_83
  let c2048_i32_77 : BitVec 32 := 2048#32
  let c0_i32_10 : BitVec 32 := 0#32
  let c1_i32_12 : BitVec 32 := 1#32
  let arg9 : BitVec 32 := Scf.iv c0_i32_10 c1_i32_12 k0_t2
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c2048_i32_77 v87
  let v107 : Index := Scalar.indexCast v88
  ![2, v107.toNat]

def k0_chk34 (v110 : IVec S16 32) : Prop :=
  (∀ a x, ((![v110] : Fin 1 → IVec S16 32) a x).toNat < S3072.size a)
theorem k0_idx34_inb : ∀ (v110 : IVec S16 32) (k0_hw34 : k0_chk34 v110), ∀ a x, ((![v110] : Fin 1 → IVec S16 32) a x).toNat < S3072.size a := fun v110 k0_hw34 => k0_hw34
def k0_off42 (k0_t2 : Fin k0_t2_loop.trips) : Fin 2 → Nat :=
  let c3_i32_85 : BitVec 32 := 3#32
  let v112 : Index := Scalar.indexCast c3_i32_85
  let c2048_i32_77 : BitVec 32 := 2048#32
  let c0_i32_10 : BitVec 32 := 0#32
  let c1_i32_12 : BitVec 32 := 1#32
  let arg9 : BitVec 32 := Scf.iv c0_i32_10 c1_i32_12 k0_t2
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c2048_i32_77 v87
  let v113 : Index := Scalar.indexCast v88
  ![3, v113.toNat]

def k0_chk35 (v116 : IVec S16 32) : Prop :=
  (∀ a x, ((![v116] : Fin 1 → IVec S16 32) a x).toNat < S3072.size a)
theorem k0_idx35_inb : ∀ (v116 : IVec S16 32) (k0_hw35 : k0_chk35 v116), ∀ a x, ((![v116] : Fin 1 → IVec S16 32) a x).toNat < S3072.size a := fun v116 k0_hw35 => k0_hw35
def k0_off43 (k0_t2 : Fin k0_t2_loop.trips) : Fin 2 → Nat :=
  let c4_i32_87 : BitVec 32 := 4#32
  let v118 : Index := Scalar.indexCast c4_i32_87
  let c2048_i32_77 : BitVec 32 := 2048#32
  let c0_i32_10 : BitVec 32 := 0#32
  let c1_i32_12 : BitVec 32 := 1#32
  let arg9 : BitVec 32 := Scf.iv c0_i32_10 c1_i32_12 k0_t2
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c2048_i32_77 v87
  let v119 : Index := Scalar.indexCast v88
  ![4, v119.toNat]

def k0_chk36 (v122 : IVec S16 32) : Prop :=
  (∀ a x, ((![v122] : Fin 1 → IVec S16 32) a x).toNat < S3072.size a)
theorem k0_idx36_inb : ∀ (v122 : IVec S16 32) (k0_hw36 : k0_chk36 v122), ∀ a x, ((![v122] : Fin 1 → IVec S16 32) a x).toNat < S3072.size a := fun v122 k0_hw36 => k0_hw36
def k0_off44 (k0_t2 : Fin k0_t2_loop.trips) : Fin 2 → Nat :=
  let c5_i32_89 : BitVec 32 := 5#32
  let v124 : Index := Scalar.indexCast c5_i32_89
  let c2048_i32_77 : BitVec 32 := 2048#32
  let c0_i32_10 : BitVec 32 := 0#32
  let c1_i32_12 : BitVec 32 := 1#32
  let arg9 : BitVec 32 := Scf.iv c0_i32_10 c1_i32_12 k0_t2
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c2048_i32_77 v87
  let v125 : Index := Scalar.indexCast v88
  ![5, v125.toNat]
def k0_off45 (k0_t2 : Fin k0_t2_loop.trips) : Fin 1 → Nat :=
  let c2048_i32_93 : BitVec 32 := 2048#32
  let c0_i32_10 : BitVec 32 := 0#32
  let c1_i32_12 : BitVec 32 := 1#32
  let arg9 : BitVec 32 := Scf.iv c0_i32_10 c1_i32_12 k0_t2
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c2048_i32_93 v129
  let v131 : Index := Scalar.indexCast v130
  ![v131.toNat]

def k0_chk37 (v134 : IVec S16 32) : Prop :=
  (∀ a x, ((![v134] : Fin 1 → IVec S16 32) a x).toNat < S3072.size a)
theorem k0_idx37_inb : ∀ (v134 : IVec S16 32) (k0_hw37 : k0_chk37 v134), ∀ a x, ((![v134] : Fin 1 → IVec S16 32) a x).toNat < S3072.size a := fun v134 k0_hw37 => k0_hw37
def k0_off46 (k0_t2 : Fin k0_t2_loop.trips) : Fin 2 → Nat :=
  let c0_i32_95 : BitVec 32 := 0#32
  let v136 : Index := Scalar.indexCast c0_i32_95
  let c2048_i32_93 : BitVec 32 := 2048#32
  let c0_i32_10 : BitVec 32 := 0#32
  let c1_i32_12 : BitVec 32 := 1#32
  let arg9 : BitVec 32 := Scf.iv c0_i32_10 c1_i32_12 k0_t2
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c2048_i32_93 v129
  let v137 : Index := Scalar.indexCast v130
  ![0, v137.toNat]

def k0_chk38 (v140 : IVec S16 32) : Prop :=
  (∀ a x, ((![v140] : Fin 1 → IVec S16 32) a x).toNat < S3072.size a)
theorem k0_idx38_inb : ∀ (v140 : IVec S16 32) (k0_hw38 : k0_chk38 v140), ∀ a x, ((![v140] : Fin 1 → IVec S16 32) a x).toNat < S3072.size a := fun v140 k0_hw38 => k0_hw38
def k0_off47 (k0_t2 : Fin k0_t2_loop.trips) : Fin 2 → Nat :=
  let c1_i32_97 : BitVec 32 := 1#32
  let v142 : Index := Scalar.indexCast c1_i32_97
  let c2048_i32_93 : BitVec 32 := 2048#32
  let c0_i32_10 : BitVec 32 := 0#32
  let c1_i32_12 : BitVec 32 := 1#32
  let arg9 : BitVec 32 := Scf.iv c0_i32_10 c1_i32_12 k0_t2
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c2048_i32_93 v129
  let v143 : Index := Scalar.indexCast v130
  ![1, v143.toNat]

def k0_chk39 (v146 : IVec S16 32) : Prop :=
  (∀ a x, ((![v146] : Fin 1 → IVec S16 32) a x).toNat < S3072.size a)
theorem k0_idx39_inb : ∀ (v146 : IVec S16 32) (k0_hw39 : k0_chk39 v146), ∀ a x, ((![v146] : Fin 1 → IVec S16 32) a x).toNat < S3072.size a := fun v146 k0_hw39 => k0_hw39
def k0_off48 (k0_t2 : Fin k0_t2_loop.trips) : Fin 2 → Nat :=
  let c2_i32_99 : BitVec 32 := 2#32
  let v148 : Index := Scalar.indexCast c2_i32_99
  let c2048_i32_93 : BitVec 32 := 2048#32
  let c0_i32_10 : BitVec 32 := 0#32
  let c1_i32_12 : BitVec 32 := 1#32
  let arg9 : BitVec 32 := Scf.iv c0_i32_10 c1_i32_12 k0_t2
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c2048_i32_93 v129
  let v149 : Index := Scalar.indexCast v130
  ![2, v149.toNat]

def k0_chk40 (v152 : IVec S16 32) : Prop :=
  (∀ a x, ((![v152] : Fin 1 → IVec S16 32) a x).toNat < S3072.size a)
theorem k0_idx40_inb : ∀ (v152 : IVec S16 32) (k0_hw40 : k0_chk40 v152), ∀ a x, ((![v152] : Fin 1 → IVec S16 32) a x).toNat < S3072.size a := fun v152 k0_hw40 => k0_hw40
def k0_off49 (k0_t2 : Fin k0_t2_loop.trips) : Fin 2 → Nat :=
  let c3_i32_101 : BitVec 32 := 3#32
  let v154 : Index := Scalar.indexCast c3_i32_101
  let c2048_i32_93 : BitVec 32 := 2048#32
  let c0_i32_10 : BitVec 32 := 0#32
  let c1_i32_12 : BitVec 32 := 1#32
  let arg9 : BitVec 32 := Scf.iv c0_i32_10 c1_i32_12 k0_t2
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c2048_i32_93 v129
  let v155 : Index := Scalar.indexCast v130
  ![3, v155.toNat]

def k0_chk41 (v158 : IVec S16 32) : Prop :=
  (∀ a x, ((![v158] : Fin 1 → IVec S16 32) a x).toNat < S3072.size a)
theorem k0_idx41_inb : ∀ (v158 : IVec S16 32) (k0_hw41 : k0_chk41 v158), ∀ a x, ((![v158] : Fin 1 → IVec S16 32) a x).toNat < S3072.size a := fun v158 k0_hw41 => k0_hw41
def k0_off50 (k0_t2 : Fin k0_t2_loop.trips) : Fin 2 → Nat :=
  let c4_i32_103 : BitVec 32 := 4#32
  let v160 : Index := Scalar.indexCast c4_i32_103
  let c2048_i32_93 : BitVec 32 := 2048#32
  let c0_i32_10 : BitVec 32 := 0#32
  let c1_i32_12 : BitVec 32 := 1#32
  let arg9 : BitVec 32 := Scf.iv c0_i32_10 c1_i32_12 k0_t2
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c2048_i32_93 v129
  let v161 : Index := Scalar.indexCast v130
  ![4, v161.toNat]

def k0_chk42 (v164 : IVec S16 32) : Prop :=
  (∀ a x, ((![v164] : Fin 1 → IVec S16 32) a x).toNat < S3072.size a)
theorem k0_idx42_inb : ∀ (v164 : IVec S16 32) (k0_hw42 : k0_chk42 v164), ∀ a x, ((![v164] : Fin 1 → IVec S16 32) a x).toNat < S3072.size a := fun v164 k0_hw42 => k0_hw42
def k0_off51 (k0_t2 : Fin k0_t2_loop.trips) : Fin 2 → Nat :=
  let c5_i32_105 : BitVec 32 := 5#32
  let v166 : Index := Scalar.indexCast c5_i32_105
  let c2048_i32_93 : BitVec 32 := 2048#32
  let c0_i32_10 : BitVec 32 := 0#32
  let c1_i32_12 : BitVec 32 := 1#32
  let arg9 : BitVec 32 := Scf.iv c0_i32_10 c1_i32_12 k0_t2
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c2048_i32_93 v129
  let v167 : Index := Scalar.indexCast v130
  ![5, v167.toNat]
def k0_off52 (k0_t2 : Fin k0_t2_loop.trips) : Fin 1 → Nat :=
  let c2048_i32_109 : BitVec 32 := 2048#32
  let c0_i32_10 : BitVec 32 := 0#32
  let c1_i32_12 : BitVec 32 := 1#32
  let arg9 : BitVec 32 := Scf.iv c0_i32_10 c1_i32_12 k0_t2
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c2048_i32_109 v171
  let v173 : Index := Scalar.indexCast v172
  ![v173.toNat]

def k0_chk43 (v176 : IVec S16 32) : Prop :=
  (∀ a x, ((![v176] : Fin 1 → IVec S16 32) a x).toNat < S3072.size a)
theorem k0_idx43_inb : ∀ (v176 : IVec S16 32) (k0_hw43 : k0_chk43 v176), ∀ a x, ((![v176] : Fin 1 → IVec S16 32) a x).toNat < S3072.size a := fun v176 k0_hw43 => k0_hw43
def k0_off53 (k0_t2 : Fin k0_t2_loop.trips) : Fin 2 → Nat :=
  let c0_i32_111 : BitVec 32 := 0#32
  let v178 : Index := Scalar.indexCast c0_i32_111
  let c2048_i32_109 : BitVec 32 := 2048#32
  let c0_i32_10 : BitVec 32 := 0#32
  let c1_i32_12 : BitVec 32 := 1#32
  let arg9 : BitVec 32 := Scf.iv c0_i32_10 c1_i32_12 k0_t2
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c2048_i32_109 v171
  let v179 : Index := Scalar.indexCast v172
  ![0, v179.toNat]

def k0_chk44 (v182 : IVec S16 32) : Prop :=
  (∀ a x, ((![v182] : Fin 1 → IVec S16 32) a x).toNat < S3072.size a)
theorem k0_idx44_inb : ∀ (v182 : IVec S16 32) (k0_hw44 : k0_chk44 v182), ∀ a x, ((![v182] : Fin 1 → IVec S16 32) a x).toNat < S3072.size a := fun v182 k0_hw44 => k0_hw44
def k0_off54 (k0_t2 : Fin k0_t2_loop.trips) : Fin 2 → Nat :=
  let c1_i32_113 : BitVec 32 := 1#32
  let v184 : Index := Scalar.indexCast c1_i32_113
  let c2048_i32_109 : BitVec 32 := 2048#32
  let c0_i32_10 : BitVec 32 := 0#32
  let c1_i32_12 : BitVec 32 := 1#32
  let arg9 : BitVec 32 := Scf.iv c0_i32_10 c1_i32_12 k0_t2
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c2048_i32_109 v171
  let v185 : Index := Scalar.indexCast v172
  ![1, v185.toNat]

def k0_chk45 (v188 : IVec S16 32) : Prop :=
  (∀ a x, ((![v188] : Fin 1 → IVec S16 32) a x).toNat < S3072.size a)
theorem k0_idx45_inb : ∀ (v188 : IVec S16 32) (k0_hw45 : k0_chk45 v188), ∀ a x, ((![v188] : Fin 1 → IVec S16 32) a x).toNat < S3072.size a := fun v188 k0_hw45 => k0_hw45
def k0_off55 (k0_t2 : Fin k0_t2_loop.trips) : Fin 2 → Nat :=
  let c2_i32_115 : BitVec 32 := 2#32
  let v190 : Index := Scalar.indexCast c2_i32_115
  let c2048_i32_109 : BitVec 32 := 2048#32
  let c0_i32_10 : BitVec 32 := 0#32
  let c1_i32_12 : BitVec 32 := 1#32
  let arg9 : BitVec 32 := Scf.iv c0_i32_10 c1_i32_12 k0_t2
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c2048_i32_109 v171
  let v191 : Index := Scalar.indexCast v172
  ![2, v191.toNat]

def k0_chk46 (v194 : IVec S16 32) : Prop :=
  (∀ a x, ((![v194] : Fin 1 → IVec S16 32) a x).toNat < S3072.size a)
theorem k0_idx46_inb : ∀ (v194 : IVec S16 32) (k0_hw46 : k0_chk46 v194), ∀ a x, ((![v194] : Fin 1 → IVec S16 32) a x).toNat < S3072.size a := fun v194 k0_hw46 => k0_hw46
def k0_off56 (k0_t2 : Fin k0_t2_loop.trips) : Fin 2 → Nat :=
  let c3_i32_117 : BitVec 32 := 3#32
  let v196 : Index := Scalar.indexCast c3_i32_117
  let c2048_i32_109 : BitVec 32 := 2048#32
  let c0_i32_10 : BitVec 32 := 0#32
  let c1_i32_12 : BitVec 32 := 1#32
  let arg9 : BitVec 32 := Scf.iv c0_i32_10 c1_i32_12 k0_t2
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c2048_i32_109 v171
  let v197 : Index := Scalar.indexCast v172
  ![3, v197.toNat]

def k0_chk47 (v200 : IVec S16 32) : Prop :=
  (∀ a x, ((![v200] : Fin 1 → IVec S16 32) a x).toNat < S3072.size a)
theorem k0_idx47_inb : ∀ (v200 : IVec S16 32) (k0_hw47 : k0_chk47 v200), ∀ a x, ((![v200] : Fin 1 → IVec S16 32) a x).toNat < S3072.size a := fun v200 k0_hw47 => k0_hw47
def k0_off57 (k0_t2 : Fin k0_t2_loop.trips) : Fin 2 → Nat :=
  let c4_i32_119 : BitVec 32 := 4#32
  let v202 : Index := Scalar.indexCast c4_i32_119
  let c2048_i32_109 : BitVec 32 := 2048#32
  let c0_i32_10 : BitVec 32 := 0#32
  let c1_i32_12 : BitVec 32 := 1#32
  let arg9 : BitVec 32 := Scf.iv c0_i32_10 c1_i32_12 k0_t2
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c2048_i32_109 v171
  let v203 : Index := Scalar.indexCast v172
  ![4, v203.toNat]

def k0_chk48 (v206 : IVec S16 32) : Prop :=
  (∀ a x, ((![v206] : Fin 1 → IVec S16 32) a x).toNat < S3072.size a)
theorem k0_idx48_inb : ∀ (v206 : IVec S16 32) (k0_hw48 : k0_chk48 v206), ∀ a x, ((![v206] : Fin 1 → IVec S16 32) a x).toNat < S3072.size a := fun v206 k0_hw48 => k0_hw48
def k0_off58 (k0_t2 : Fin k0_t2_loop.trips) : Fin 2 → Nat :=
  let c5_i32_121 : BitVec 32 := 5#32
  let v208 : Index := Scalar.indexCast c5_i32_121
  let c2048_i32_109 : BitVec 32 := 2048#32
  let c0_i32_10 : BitVec 32 := 0#32
  let c1_i32_12 : BitVec 32 := 1#32
  let arg9 : BitVec 32 := Scf.iv c0_i32_10 c1_i32_12 k0_t2
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c2048_i32_109 v171
  let v209 : Index := Scalar.indexCast v172
  ![5, v209.toNat]
@[reducible] def k0_t3_loop : Scf.Loop 32 :=
  let c0_i32_21 : BitVec 32 := 0#32
  let c32_i32_22 : BitVec 32 := 32#32
  let v15 : BitVec 32 := Scalar.addi c0_i32_21 c32_i32_22
  let c1_i32_23 : BitVec 32 := 1#32
  ⟨c0_i32_21, v15, c1_i32_23⟩
def k0_off59 (k0_t3 : Fin k0_t3_loop.trips) : Fin 1 → Nat :=
  let c4096_i32_67 : BitVec 32 := 4096#32
  let c0_i32_21 : BitVec 32 := 0#32
  let c1_i32_23 : BitVec 32 := 1#32
  let arg9 : BitVec 32 := Scf.iv c0_i32_21 c1_i32_23 k0_t3
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c4096_i32_67 v45
  let v47 : Index := Scalar.indexCast v46
  ![v47.toNat]

def k0_chk49 (v50 : IVec S16 32) : Prop :=
  (∀ a x, ((![v50] : Fin 1 → IVec S16 32) a x).toNat < S3072.size a)
theorem k0_idx49_inb : ∀ (v50 : IVec S16 32) (k0_hw49 : k0_chk49 v50), ∀ a x, ((![v50] : Fin 1 → IVec S16 32) a x).toNat < S3072.size a := fun v50 k0_hw49 => k0_hw49
def k0_off60 (k0_t3 : Fin k0_t3_loop.trips) : Fin 2 → Nat :=
  let c0_i32_69 : BitVec 32 := 0#32
  let v52 : Index := Scalar.indexCast c0_i32_69
  let c4096_i32_67 : BitVec 32 := 4096#32
  let c0_i32_21 : BitVec 32 := 0#32
  let c1_i32_23 : BitVec 32 := 1#32
  let arg9 : BitVec 32 := Scf.iv c0_i32_21 c1_i32_23 k0_t3
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c4096_i32_67 v45
  let v53 : Index := Scalar.indexCast v46
  ![0, v53.toNat]

def k0_chk50 (v56 : IVec S16 32) : Prop :=
  (∀ a x, ((![v56] : Fin 1 → IVec S16 32) a x).toNat < S3072.size a)
theorem k0_idx50_inb : ∀ (v56 : IVec S16 32) (k0_hw50 : k0_chk50 v56), ∀ a x, ((![v56] : Fin 1 → IVec S16 32) a x).toNat < S3072.size a := fun v56 k0_hw50 => k0_hw50
def k0_off61 (k0_t3 : Fin k0_t3_loop.trips) : Fin 2 → Nat :=
  let c1_i32_70 : BitVec 32 := 1#32
  let v58 : Index := Scalar.indexCast c1_i32_70
  let c4096_i32_67 : BitVec 32 := 4096#32
  let c0_i32_21 : BitVec 32 := 0#32
  let c1_i32_23 : BitVec 32 := 1#32
  let arg9 : BitVec 32 := Scf.iv c0_i32_21 c1_i32_23 k0_t3
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c4096_i32_67 v45
  let v59 : Index := Scalar.indexCast v46
  ![1, v59.toNat]

def k0_chk51 (v62 : IVec S16 32) : Prop :=
  (∀ a x, ((![v62] : Fin 1 → IVec S16 32) a x).toNat < S3072.size a)
theorem k0_idx51_inb : ∀ (v62 : IVec S16 32) (k0_hw51 : k0_chk51 v62), ∀ a x, ((![v62] : Fin 1 → IVec S16 32) a x).toNat < S3072.size a := fun v62 k0_hw51 => k0_hw51
def k0_off62 (k0_t3 : Fin k0_t3_loop.trips) : Fin 2 → Nat :=
  let c2_i32_71 : BitVec 32 := 2#32
  let v64 : Index := Scalar.indexCast c2_i32_71
  let c4096_i32_67 : BitVec 32 := 4096#32
  let c0_i32_21 : BitVec 32 := 0#32
  let c1_i32_23 : BitVec 32 := 1#32
  let arg9 : BitVec 32 := Scf.iv c0_i32_21 c1_i32_23 k0_t3
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c4096_i32_67 v45
  let v65 : Index := Scalar.indexCast v46
  ![2, v65.toNat]

def k0_chk52 (v68 : IVec S16 32) : Prop :=
  (∀ a x, ((![v68] : Fin 1 → IVec S16 32) a x).toNat < S3072.size a)
theorem k0_idx52_inb : ∀ (v68 : IVec S16 32) (k0_hw52 : k0_chk52 v68), ∀ a x, ((![v68] : Fin 1 → IVec S16 32) a x).toNat < S3072.size a := fun v68 k0_hw52 => k0_hw52
def k0_off63 (k0_t3 : Fin k0_t3_loop.trips) : Fin 2 → Nat :=
  let c3_i32 : BitVec 32 := 3#32
  let v70 : Index := Scalar.indexCast c3_i32
  let c4096_i32_67 : BitVec 32 := 4096#32
  let c0_i32_21 : BitVec 32 := 0#32
  let c1_i32_23 : BitVec 32 := 1#32
  let arg9 : BitVec 32 := Scf.iv c0_i32_21 c1_i32_23 k0_t3
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c4096_i32_67 v45
  let v71 : Index := Scalar.indexCast v46
  ![3, v71.toNat]

def k0_chk53 (v74 : IVec S16 32) : Prop :=
  (∀ a x, ((![v74] : Fin 1 → IVec S16 32) a x).toNat < S3072.size a)
theorem k0_idx53_inb : ∀ (v74 : IVec S16 32) (k0_hw53 : k0_chk53 v74), ∀ a x, ((![v74] : Fin 1 → IVec S16 32) a x).toNat < S3072.size a := fun v74 k0_hw53 => k0_hw53
def k0_off64 (k0_t3 : Fin k0_t3_loop.trips) : Fin 2 → Nat :=
  let c4_i32_73 : BitVec 32 := 4#32
  let v76 : Index := Scalar.indexCast c4_i32_73
  let c4096_i32_67 : BitVec 32 := 4096#32
  let c0_i32_21 : BitVec 32 := 0#32
  let c1_i32_23 : BitVec 32 := 1#32
  let arg9 : BitVec 32 := Scf.iv c0_i32_21 c1_i32_23 k0_t3
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c4096_i32_67 v45
  let v77 : Index := Scalar.indexCast v46
  ![4, v77.toNat]

def k0_chk54 (v80 : IVec S16 32) : Prop :=
  (∀ a x, ((![v80] : Fin 1 → IVec S16 32) a x).toNat < S3072.size a)
theorem k0_idx54_inb : ∀ (v80 : IVec S16 32) (k0_hw54 : k0_chk54 v80), ∀ a x, ((![v80] : Fin 1 → IVec S16 32) a x).toNat < S3072.size a := fun v80 k0_hw54 => k0_hw54
def k0_off65 (k0_t3 : Fin k0_t3_loop.trips) : Fin 2 → Nat :=
  let c5_i32 : BitVec 32 := 5#32
  let v82 : Index := Scalar.indexCast c5_i32
  let c4096_i32_67 : BitVec 32 := 4096#32
  let c0_i32_21 : BitVec 32 := 0#32
  let c1_i32_23 : BitVec 32 := 1#32
  let arg9 : BitVec 32 := Scf.iv c0_i32_21 c1_i32_23 k0_t3
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c4096_i32_67 v45
  let v83 : Index := Scalar.indexCast v46
  ![5, v83.toNat]
def k0_off66 (k0_t3 : Fin k0_t3_loop.trips) : Fin 1 → Nat :=
  let c4096_i32_77 : BitVec 32 := 4096#32
  let c0_i32_21 : BitVec 32 := 0#32
  let c1_i32_23 : BitVec 32 := 1#32
  let arg9 : BitVec 32 := Scf.iv c0_i32_21 c1_i32_23 k0_t3
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c4096_i32_77 v87
  let v89 : Index := Scalar.indexCast v88
  ![v89.toNat]

def k0_chk55 (v92 : IVec S16 32) : Prop :=
  (∀ a x, ((![v92] : Fin 1 → IVec S16 32) a x).toNat < S3072.size a)
theorem k0_idx55_inb : ∀ (v92 : IVec S16 32) (k0_hw55 : k0_chk55 v92), ∀ a x, ((![v92] : Fin 1 → IVec S16 32) a x).toNat < S3072.size a := fun v92 k0_hw55 => k0_hw55
def k0_off67 (k0_t3 : Fin k0_t3_loop.trips) : Fin 2 → Nat :=
  let c0_i32_79 : BitVec 32 := 0#32
  let v94 : Index := Scalar.indexCast c0_i32_79
  let c4096_i32_77 : BitVec 32 := 4096#32
  let c0_i32_21 : BitVec 32 := 0#32
  let c1_i32_23 : BitVec 32 := 1#32
  let arg9 : BitVec 32 := Scf.iv c0_i32_21 c1_i32_23 k0_t3
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c4096_i32_77 v87
  let v95 : Index := Scalar.indexCast v88
  ![0, v95.toNat]

def k0_chk56 (v98 : IVec S16 32) : Prop :=
  (∀ a x, ((![v98] : Fin 1 → IVec S16 32) a x).toNat < S3072.size a)
theorem k0_idx56_inb : ∀ (v98 : IVec S16 32) (k0_hw56 : k0_chk56 v98), ∀ a x, ((![v98] : Fin 1 → IVec S16 32) a x).toNat < S3072.size a := fun v98 k0_hw56 => k0_hw56
def k0_off68 (k0_t3 : Fin k0_t3_loop.trips) : Fin 2 → Nat :=
  let c1_i32_81 : BitVec 32 := 1#32
  let v100 : Index := Scalar.indexCast c1_i32_81
  let c4096_i32_77 : BitVec 32 := 4096#32
  let c0_i32_21 : BitVec 32 := 0#32
  let c1_i32_23 : BitVec 32 := 1#32
  let arg9 : BitVec 32 := Scf.iv c0_i32_21 c1_i32_23 k0_t3
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c4096_i32_77 v87
  let v101 : Index := Scalar.indexCast v88
  ![1, v101.toNat]

def k0_chk57 (v104 : IVec S16 32) : Prop :=
  (∀ a x, ((![v104] : Fin 1 → IVec S16 32) a x).toNat < S3072.size a)
theorem k0_idx57_inb : ∀ (v104 : IVec S16 32) (k0_hw57 : k0_chk57 v104), ∀ a x, ((![v104] : Fin 1 → IVec S16 32) a x).toNat < S3072.size a := fun v104 k0_hw57 => k0_hw57
def k0_off69 (k0_t3 : Fin k0_t3_loop.trips) : Fin 2 → Nat :=
  let c2_i32_83 : BitVec 32 := 2#32
  let v106 : Index := Scalar.indexCast c2_i32_83
  let c4096_i32_77 : BitVec 32 := 4096#32
  let c0_i32_21 : BitVec 32 := 0#32
  let c1_i32_23 : BitVec 32 := 1#32
  let arg9 : BitVec 32 := Scf.iv c0_i32_21 c1_i32_23 k0_t3
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c4096_i32_77 v87
  let v107 : Index := Scalar.indexCast v88
  ![2, v107.toNat]

def k0_chk58 (v110 : IVec S16 32) : Prop :=
  (∀ a x, ((![v110] : Fin 1 → IVec S16 32) a x).toNat < S3072.size a)
theorem k0_idx58_inb : ∀ (v110 : IVec S16 32) (k0_hw58 : k0_chk58 v110), ∀ a x, ((![v110] : Fin 1 → IVec S16 32) a x).toNat < S3072.size a := fun v110 k0_hw58 => k0_hw58
def k0_off70 (k0_t3 : Fin k0_t3_loop.trips) : Fin 2 → Nat :=
  let c3_i32_85 : BitVec 32 := 3#32
  let v112 : Index := Scalar.indexCast c3_i32_85
  let c4096_i32_77 : BitVec 32 := 4096#32
  let c0_i32_21 : BitVec 32 := 0#32
  let c1_i32_23 : BitVec 32 := 1#32
  let arg9 : BitVec 32 := Scf.iv c0_i32_21 c1_i32_23 k0_t3
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c4096_i32_77 v87
  let v113 : Index := Scalar.indexCast v88
  ![3, v113.toNat]

def k0_chk59 (v116 : IVec S16 32) : Prop :=
  (∀ a x, ((![v116] : Fin 1 → IVec S16 32) a x).toNat < S3072.size a)
theorem k0_idx59_inb : ∀ (v116 : IVec S16 32) (k0_hw59 : k0_chk59 v116), ∀ a x, ((![v116] : Fin 1 → IVec S16 32) a x).toNat < S3072.size a := fun v116 k0_hw59 => k0_hw59
def k0_off71 (k0_t3 : Fin k0_t3_loop.trips) : Fin 2 → Nat :=
  let c4_i32_87 : BitVec 32 := 4#32
  let v118 : Index := Scalar.indexCast c4_i32_87
  let c4096_i32_77 : BitVec 32 := 4096#32
  let c0_i32_21 : BitVec 32 := 0#32
  let c1_i32_23 : BitVec 32 := 1#32
  let arg9 : BitVec 32 := Scf.iv c0_i32_21 c1_i32_23 k0_t3
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c4096_i32_77 v87
  let v119 : Index := Scalar.indexCast v88
  ![4, v119.toNat]

def k0_chk60 (v122 : IVec S16 32) : Prop :=
  (∀ a x, ((![v122] : Fin 1 → IVec S16 32) a x).toNat < S3072.size a)
theorem k0_idx60_inb : ∀ (v122 : IVec S16 32) (k0_hw60 : k0_chk60 v122), ∀ a x, ((![v122] : Fin 1 → IVec S16 32) a x).toNat < S3072.size a := fun v122 k0_hw60 => k0_hw60
def k0_off72 (k0_t3 : Fin k0_t3_loop.trips) : Fin 2 → Nat :=
  let c5_i32_89 : BitVec 32 := 5#32
  let v124 : Index := Scalar.indexCast c5_i32_89
  let c4096_i32_77 : BitVec 32 := 4096#32
  let c0_i32_21 : BitVec 32 := 0#32
  let c1_i32_23 : BitVec 32 := 1#32
  let arg9 : BitVec 32 := Scf.iv c0_i32_21 c1_i32_23 k0_t3
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c4096_i32_77 v87
  let v125 : Index := Scalar.indexCast v88
  ![5, v125.toNat]
def k0_off73 (k0_t3 : Fin k0_t3_loop.trips) : Fin 1 → Nat :=
  let c4096_i32_93 : BitVec 32 := 4096#32
  let c0_i32_21 : BitVec 32 := 0#32
  let c1_i32_23 : BitVec 32 := 1#32
  let arg9 : BitVec 32 := Scf.iv c0_i32_21 c1_i32_23 k0_t3
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c4096_i32_93 v129
  let v131 : Index := Scalar.indexCast v130
  ![v131.toNat]

def k0_chk61 (v134 : IVec S16 32) : Prop :=
  (∀ a x, ((![v134] : Fin 1 → IVec S16 32) a x).toNat < S3072.size a)
theorem k0_idx61_inb : ∀ (v134 : IVec S16 32) (k0_hw61 : k0_chk61 v134), ∀ a x, ((![v134] : Fin 1 → IVec S16 32) a x).toNat < S3072.size a := fun v134 k0_hw61 => k0_hw61
def k0_off74 (k0_t3 : Fin k0_t3_loop.trips) : Fin 2 → Nat :=
  let c0_i32_95 : BitVec 32 := 0#32
  let v136 : Index := Scalar.indexCast c0_i32_95
  let c4096_i32_93 : BitVec 32 := 4096#32
  let c0_i32_21 : BitVec 32 := 0#32
  let c1_i32_23 : BitVec 32 := 1#32
  let arg9 : BitVec 32 := Scf.iv c0_i32_21 c1_i32_23 k0_t3
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c4096_i32_93 v129
  let v137 : Index := Scalar.indexCast v130
  ![0, v137.toNat]

def k0_chk62 (v140 : IVec S16 32) : Prop :=
  (∀ a x, ((![v140] : Fin 1 → IVec S16 32) a x).toNat < S3072.size a)
theorem k0_idx62_inb : ∀ (v140 : IVec S16 32) (k0_hw62 : k0_chk62 v140), ∀ a x, ((![v140] : Fin 1 → IVec S16 32) a x).toNat < S3072.size a := fun v140 k0_hw62 => k0_hw62
def k0_off75 (k0_t3 : Fin k0_t3_loop.trips) : Fin 2 → Nat :=
  let c1_i32_97 : BitVec 32 := 1#32
  let v142 : Index := Scalar.indexCast c1_i32_97
  let c4096_i32_93 : BitVec 32 := 4096#32
  let c0_i32_21 : BitVec 32 := 0#32
  let c1_i32_23 : BitVec 32 := 1#32
  let arg9 : BitVec 32 := Scf.iv c0_i32_21 c1_i32_23 k0_t3
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c4096_i32_93 v129
  let v143 : Index := Scalar.indexCast v130
  ![1, v143.toNat]

def k0_chk63 (v146 : IVec S16 32) : Prop :=
  (∀ a x, ((![v146] : Fin 1 → IVec S16 32) a x).toNat < S3072.size a)
theorem k0_idx63_inb : ∀ (v146 : IVec S16 32) (k0_hw63 : k0_chk63 v146), ∀ a x, ((![v146] : Fin 1 → IVec S16 32) a x).toNat < S3072.size a := fun v146 k0_hw63 => k0_hw63
def k0_off76 (k0_t3 : Fin k0_t3_loop.trips) : Fin 2 → Nat :=
  let c2_i32_99 : BitVec 32 := 2#32
  let v148 : Index := Scalar.indexCast c2_i32_99
  let c4096_i32_93 : BitVec 32 := 4096#32
  let c0_i32_21 : BitVec 32 := 0#32
  let c1_i32_23 : BitVec 32 := 1#32
  let arg9 : BitVec 32 := Scf.iv c0_i32_21 c1_i32_23 k0_t3
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c4096_i32_93 v129
  let v149 : Index := Scalar.indexCast v130
  ![2, v149.toNat]

def k0_chk64 (v152 : IVec S16 32) : Prop :=
  (∀ a x, ((![v152] : Fin 1 → IVec S16 32) a x).toNat < S3072.size a)
theorem k0_idx64_inb : ∀ (v152 : IVec S16 32) (k0_hw64 : k0_chk64 v152), ∀ a x, ((![v152] : Fin 1 → IVec S16 32) a x).toNat < S3072.size a := fun v152 k0_hw64 => k0_hw64
def k0_off77 (k0_t3 : Fin k0_t3_loop.trips) : Fin 2 → Nat :=
  let c3_i32_101 : BitVec 32 := 3#32
  let v154 : Index := Scalar.indexCast c3_i32_101
  let c4096_i32_93 : BitVec 32 := 4096#32
  let c0_i32_21 : BitVec 32 := 0#32
  let c1_i32_23 : BitVec 32 := 1#32
  let arg9 : BitVec 32 := Scf.iv c0_i32_21 c1_i32_23 k0_t3
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c4096_i32_93 v129
  let v155 : Index := Scalar.indexCast v130
  ![3, v155.toNat]

def k0_chk65 (v158 : IVec S16 32) : Prop :=
  (∀ a x, ((![v158] : Fin 1 → IVec S16 32) a x).toNat < S3072.size a)
theorem k0_idx65_inb : ∀ (v158 : IVec S16 32) (k0_hw65 : k0_chk65 v158), ∀ a x, ((![v158] : Fin 1 → IVec S16 32) a x).toNat < S3072.size a := fun v158 k0_hw65 => k0_hw65
def k0_off78 (k0_t3 : Fin k0_t3_loop.trips) : Fin 2 → Nat :=
  let c4_i32_103 : BitVec 32 := 4#32
  let v160 : Index := Scalar.indexCast c4_i32_103
  let c4096_i32_93 : BitVec 32 := 4096#32
  let c0_i32_21 : BitVec 32 := 0#32
  let c1_i32_23 : BitVec 32 := 1#32
  let arg9 : BitVec 32 := Scf.iv c0_i32_21 c1_i32_23 k0_t3
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c4096_i32_93 v129
  let v161 : Index := Scalar.indexCast v130
  ![4, v161.toNat]

def k0_chk66 (v164 : IVec S16 32) : Prop :=
  (∀ a x, ((![v164] : Fin 1 → IVec S16 32) a x).toNat < S3072.size a)
theorem k0_idx66_inb : ∀ (v164 : IVec S16 32) (k0_hw66 : k0_chk66 v164), ∀ a x, ((![v164] : Fin 1 → IVec S16 32) a x).toNat < S3072.size a := fun v164 k0_hw66 => k0_hw66
def k0_off79 (k0_t3 : Fin k0_t3_loop.trips) : Fin 2 → Nat :=
  let c5_i32_105 : BitVec 32 := 5#32
  let v166 : Index := Scalar.indexCast c5_i32_105
  let c4096_i32_93 : BitVec 32 := 4096#32
  let c0_i32_21 : BitVec 32 := 0#32
  let c1_i32_23 : BitVec 32 := 1#32
  let arg9 : BitVec 32 := Scf.iv c0_i32_21 c1_i32_23 k0_t3
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c4096_i32_93 v129
  let v167 : Index := Scalar.indexCast v130
  ![5, v167.toNat]
def k0_off80 (k0_t3 : Fin k0_t3_loop.trips) : Fin 1 → Nat :=
  let c4096_i32_109 : BitVec 32 := 4096#32
  let c0_i32_21 : BitVec 32 := 0#32
  let c1_i32_23 : BitVec 32 := 1#32
  let arg9 : BitVec 32 := Scf.iv c0_i32_21 c1_i32_23 k0_t3
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c4096_i32_109 v171
  let v173 : Index := Scalar.indexCast v172
  ![v173.toNat]

def k0_chk67 (v176 : IVec S16 32) : Prop :=
  (∀ a x, ((![v176] : Fin 1 → IVec S16 32) a x).toNat < S3072.size a)
theorem k0_idx67_inb : ∀ (v176 : IVec S16 32) (k0_hw67 : k0_chk67 v176), ∀ a x, ((![v176] : Fin 1 → IVec S16 32) a x).toNat < S3072.size a := fun v176 k0_hw67 => k0_hw67
def k0_off81 (k0_t3 : Fin k0_t3_loop.trips) : Fin 2 → Nat :=
  let c0_i32_111 : BitVec 32 := 0#32
  let v178 : Index := Scalar.indexCast c0_i32_111
  let c4096_i32_109 : BitVec 32 := 4096#32
  let c0_i32_21 : BitVec 32 := 0#32
  let c1_i32_23 : BitVec 32 := 1#32
  let arg9 : BitVec 32 := Scf.iv c0_i32_21 c1_i32_23 k0_t3
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c4096_i32_109 v171
  let v179 : Index := Scalar.indexCast v172
  ![0, v179.toNat]

def k0_chk68 (v182 : IVec S16 32) : Prop :=
  (∀ a x, ((![v182] : Fin 1 → IVec S16 32) a x).toNat < S3072.size a)
theorem k0_idx68_inb : ∀ (v182 : IVec S16 32) (k0_hw68 : k0_chk68 v182), ∀ a x, ((![v182] : Fin 1 → IVec S16 32) a x).toNat < S3072.size a := fun v182 k0_hw68 => k0_hw68
def k0_off82 (k0_t3 : Fin k0_t3_loop.trips) : Fin 2 → Nat :=
  let c1_i32_113 : BitVec 32 := 1#32
  let v184 : Index := Scalar.indexCast c1_i32_113
  let c4096_i32_109 : BitVec 32 := 4096#32
  let c0_i32_21 : BitVec 32 := 0#32
  let c1_i32_23 : BitVec 32 := 1#32
  let arg9 : BitVec 32 := Scf.iv c0_i32_21 c1_i32_23 k0_t3
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c4096_i32_109 v171
  let v185 : Index := Scalar.indexCast v172
  ![1, v185.toNat]

def k0_chk69 (v188 : IVec S16 32) : Prop :=
  (∀ a x, ((![v188] : Fin 1 → IVec S16 32) a x).toNat < S3072.size a)
theorem k0_idx69_inb : ∀ (v188 : IVec S16 32) (k0_hw69 : k0_chk69 v188), ∀ a x, ((![v188] : Fin 1 → IVec S16 32) a x).toNat < S3072.size a := fun v188 k0_hw69 => k0_hw69
def k0_off83 (k0_t3 : Fin k0_t3_loop.trips) : Fin 2 → Nat :=
  let c2_i32_115 : BitVec 32 := 2#32
  let v190 : Index := Scalar.indexCast c2_i32_115
  let c4096_i32_109 : BitVec 32 := 4096#32
  let c0_i32_21 : BitVec 32 := 0#32
  let c1_i32_23 : BitVec 32 := 1#32
  let arg9 : BitVec 32 := Scf.iv c0_i32_21 c1_i32_23 k0_t3
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c4096_i32_109 v171
  let v191 : Index := Scalar.indexCast v172
  ![2, v191.toNat]

def k0_chk70 (v194 : IVec S16 32) : Prop :=
  (∀ a x, ((![v194] : Fin 1 → IVec S16 32) a x).toNat < S3072.size a)
theorem k0_idx70_inb : ∀ (v194 : IVec S16 32) (k0_hw70 : k0_chk70 v194), ∀ a x, ((![v194] : Fin 1 → IVec S16 32) a x).toNat < S3072.size a := fun v194 k0_hw70 => k0_hw70
def k0_off84 (k0_t3 : Fin k0_t3_loop.trips) : Fin 2 → Nat :=
  let c3_i32_117 : BitVec 32 := 3#32
  let v196 : Index := Scalar.indexCast c3_i32_117
  let c4096_i32_109 : BitVec 32 := 4096#32
  let c0_i32_21 : BitVec 32 := 0#32
  let c1_i32_23 : BitVec 32 := 1#32
  let arg9 : BitVec 32 := Scf.iv c0_i32_21 c1_i32_23 k0_t3
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c4096_i32_109 v171
  let v197 : Index := Scalar.indexCast v172
  ![3, v197.toNat]

def k0_chk71 (v200 : IVec S16 32) : Prop :=
  (∀ a x, ((![v200] : Fin 1 → IVec S16 32) a x).toNat < S3072.size a)
theorem k0_idx71_inb : ∀ (v200 : IVec S16 32) (k0_hw71 : k0_chk71 v200), ∀ a x, ((![v200] : Fin 1 → IVec S16 32) a x).toNat < S3072.size a := fun v200 k0_hw71 => k0_hw71
def k0_off85 (k0_t3 : Fin k0_t3_loop.trips) : Fin 2 → Nat :=
  let c4_i32_119 : BitVec 32 := 4#32
  let v202 : Index := Scalar.indexCast c4_i32_119
  let c4096_i32_109 : BitVec 32 := 4096#32
  let c0_i32_21 : BitVec 32 := 0#32
  let c1_i32_23 : BitVec 32 := 1#32
  let arg9 : BitVec 32 := Scf.iv c0_i32_21 c1_i32_23 k0_t3
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c4096_i32_109 v171
  let v203 : Index := Scalar.indexCast v172
  ![4, v203.toNat]

def k0_chk72 (v206 : IVec S16 32) : Prop :=
  (∀ a x, ((![v206] : Fin 1 → IVec S16 32) a x).toNat < S3072.size a)
theorem k0_idx72_inb : ∀ (v206 : IVec S16 32) (k0_hw72 : k0_chk72 v206), ∀ a x, ((![v206] : Fin 1 → IVec S16 32) a x).toNat < S3072.size a := fun v206 k0_hw72 => k0_hw72
def k0_off86 (k0_t3 : Fin k0_t3_loop.trips) : Fin 2 → Nat :=
  let c5_i32_121 : BitVec 32 := 5#32
  let v208 : Index := Scalar.indexCast c5_i32_121
  let c4096_i32_109 : BitVec 32 := 4096#32
  let c0_i32_21 : BitVec 32 := 0#32
  let c1_i32_23 : BitVec 32 := 1#32
  let arg9 : BitVec 32 := Scf.iv c0_i32_21 c1_i32_23 k0_t3
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c4096_i32_109 v171
  let v209 : Index := Scalar.indexCast v172
  ![5, v209.toNat]
@[reducible] def k0_t4_loop : Scf.Loop 32 :=
  let c0_i32_32 : BitVec 32 := 0#32
  let c32_i32_33 : BitVec 32 := 32#32
  let v21 : BitVec 32 := Scalar.addi c0_i32_32 c32_i32_33
  let c1_i32_34 : BitVec 32 := 1#32
  ⟨c0_i32_32, v21, c1_i32_34⟩
def k0_off87 (k0_t4 : Fin k0_t4_loop.trips) : Fin 1 → Nat :=
  let c6144_i32_67 : BitVec 32 := 6144#32
  let c0_i32_32 : BitVec 32 := 0#32
  let c1_i32_34 : BitVec 32 := 1#32
  let arg9 : BitVec 32 := Scf.iv c0_i32_32 c1_i32_34 k0_t4
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c6144_i32_67 v45
  let v47 : Index := Scalar.indexCast v46
  ![v47.toNat]

def k0_chk73 (v50 : IVec S16 32) : Prop :=
  (∀ a x, ((![v50] : Fin 1 → IVec S16 32) a x).toNat < S3072.size a)
theorem k0_idx73_inb : ∀ (v50 : IVec S16 32) (k0_hw73 : k0_chk73 v50), ∀ a x, ((![v50] : Fin 1 → IVec S16 32) a x).toNat < S3072.size a := fun v50 k0_hw73 => k0_hw73
def k0_off88 (k0_t4 : Fin k0_t4_loop.trips) : Fin 2 → Nat :=
  let c0_i32_69 : BitVec 32 := 0#32
  let v52 : Index := Scalar.indexCast c0_i32_69
  let c6144_i32_67 : BitVec 32 := 6144#32
  let c0_i32_32 : BitVec 32 := 0#32
  let c1_i32_34 : BitVec 32 := 1#32
  let arg9 : BitVec 32 := Scf.iv c0_i32_32 c1_i32_34 k0_t4
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c6144_i32_67 v45
  let v53 : Index := Scalar.indexCast v46
  ![0, v53.toNat]

def k0_chk74 (v56 : IVec S16 32) : Prop :=
  (∀ a x, ((![v56] : Fin 1 → IVec S16 32) a x).toNat < S3072.size a)
theorem k0_idx74_inb : ∀ (v56 : IVec S16 32) (k0_hw74 : k0_chk74 v56), ∀ a x, ((![v56] : Fin 1 → IVec S16 32) a x).toNat < S3072.size a := fun v56 k0_hw74 => k0_hw74
def k0_off89 (k0_t4 : Fin k0_t4_loop.trips) : Fin 2 → Nat :=
  let c1_i32_70 : BitVec 32 := 1#32
  let v58 : Index := Scalar.indexCast c1_i32_70
  let c6144_i32_67 : BitVec 32 := 6144#32
  let c0_i32_32 : BitVec 32 := 0#32
  let c1_i32_34 : BitVec 32 := 1#32
  let arg9 : BitVec 32 := Scf.iv c0_i32_32 c1_i32_34 k0_t4
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c6144_i32_67 v45
  let v59 : Index := Scalar.indexCast v46
  ![1, v59.toNat]

def k0_chk75 (v62 : IVec S16 32) : Prop :=
  (∀ a x, ((![v62] : Fin 1 → IVec S16 32) a x).toNat < S3072.size a)
theorem k0_idx75_inb : ∀ (v62 : IVec S16 32) (k0_hw75 : k0_chk75 v62), ∀ a x, ((![v62] : Fin 1 → IVec S16 32) a x).toNat < S3072.size a := fun v62 k0_hw75 => k0_hw75
def k0_off90 (k0_t4 : Fin k0_t4_loop.trips) : Fin 2 → Nat :=
  let c2_i32_71 : BitVec 32 := 2#32
  let v64 : Index := Scalar.indexCast c2_i32_71
  let c6144_i32_67 : BitVec 32 := 6144#32
  let c0_i32_32 : BitVec 32 := 0#32
  let c1_i32_34 : BitVec 32 := 1#32
  let arg9 : BitVec 32 := Scf.iv c0_i32_32 c1_i32_34 k0_t4
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c6144_i32_67 v45
  let v65 : Index := Scalar.indexCast v46
  ![2, v65.toNat]

def k0_chk76 (v68 : IVec S16 32) : Prop :=
  (∀ a x, ((![v68] : Fin 1 → IVec S16 32) a x).toNat < S3072.size a)
theorem k0_idx76_inb : ∀ (v68 : IVec S16 32) (k0_hw76 : k0_chk76 v68), ∀ a x, ((![v68] : Fin 1 → IVec S16 32) a x).toNat < S3072.size a := fun v68 k0_hw76 => k0_hw76
def k0_off91 (k0_t4 : Fin k0_t4_loop.trips) : Fin 2 → Nat :=
  let c3_i32 : BitVec 32 := 3#32
  let v70 : Index := Scalar.indexCast c3_i32
  let c6144_i32_67 : BitVec 32 := 6144#32
  let c0_i32_32 : BitVec 32 := 0#32
  let c1_i32_34 : BitVec 32 := 1#32
  let arg9 : BitVec 32 := Scf.iv c0_i32_32 c1_i32_34 k0_t4
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c6144_i32_67 v45
  let v71 : Index := Scalar.indexCast v46
  ![3, v71.toNat]

def k0_chk77 (v74 : IVec S16 32) : Prop :=
  (∀ a x, ((![v74] : Fin 1 → IVec S16 32) a x).toNat < S3072.size a)
theorem k0_idx77_inb : ∀ (v74 : IVec S16 32) (k0_hw77 : k0_chk77 v74), ∀ a x, ((![v74] : Fin 1 → IVec S16 32) a x).toNat < S3072.size a := fun v74 k0_hw77 => k0_hw77
def k0_off92 (k0_t4 : Fin k0_t4_loop.trips) : Fin 2 → Nat :=
  let c4_i32_73 : BitVec 32 := 4#32
  let v76 : Index := Scalar.indexCast c4_i32_73
  let c6144_i32_67 : BitVec 32 := 6144#32
  let c0_i32_32 : BitVec 32 := 0#32
  let c1_i32_34 : BitVec 32 := 1#32
  let arg9 : BitVec 32 := Scf.iv c0_i32_32 c1_i32_34 k0_t4
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c6144_i32_67 v45
  let v77 : Index := Scalar.indexCast v46
  ![4, v77.toNat]

def k0_chk78 (v80 : IVec S16 32) : Prop :=
  (∀ a x, ((![v80] : Fin 1 → IVec S16 32) a x).toNat < S3072.size a)
theorem k0_idx78_inb : ∀ (v80 : IVec S16 32) (k0_hw78 : k0_chk78 v80), ∀ a x, ((![v80] : Fin 1 → IVec S16 32) a x).toNat < S3072.size a := fun v80 k0_hw78 => k0_hw78
def k0_off93 (k0_t4 : Fin k0_t4_loop.trips) : Fin 2 → Nat :=
  let c5_i32 : BitVec 32 := 5#32
  let v82 : Index := Scalar.indexCast c5_i32
  let c6144_i32_67 : BitVec 32 := 6144#32
  let c0_i32_32 : BitVec 32 := 0#32
  let c1_i32_34 : BitVec 32 := 1#32
  let arg9 : BitVec 32 := Scf.iv c0_i32_32 c1_i32_34 k0_t4
  let c4_i32 : BitVec 32 := 4#32
  let v43 : BitVec 32 := Scalar.muli arg9 c4_i32
  let c0_i32_66 : BitVec 32 := 0#32
  let v44 : BitVec 32 := Scalar.addi v43 c0_i32_66
  let c16_i32 : BitVec 32 := 16#32
  let v45 : BitVec 32 := Scalar.muli v44 c16_i32
  let v46 : BitVec 32 := Scalar.addi c6144_i32_67 v45
  let v83 : Index := Scalar.indexCast v46
  ![5, v83.toNat]
def k0_off94 (k0_t4 : Fin k0_t4_loop.trips) : Fin 1 → Nat :=
  let c6144_i32_77 : BitVec 32 := 6144#32
  let c0_i32_32 : BitVec 32 := 0#32
  let c1_i32_34 : BitVec 32 := 1#32
  let arg9 : BitVec 32 := Scf.iv c0_i32_32 c1_i32_34 k0_t4
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c6144_i32_77 v87
  let v89 : Index := Scalar.indexCast v88
  ![v89.toNat]

def k0_chk79 (v92 : IVec S16 32) : Prop :=
  (∀ a x, ((![v92] : Fin 1 → IVec S16 32) a x).toNat < S3072.size a)
theorem k0_idx79_inb : ∀ (v92 : IVec S16 32) (k0_hw79 : k0_chk79 v92), ∀ a x, ((![v92] : Fin 1 → IVec S16 32) a x).toNat < S3072.size a := fun v92 k0_hw79 => k0_hw79
def k0_off95 (k0_t4 : Fin k0_t4_loop.trips) : Fin 2 → Nat :=
  let c0_i32_79 : BitVec 32 := 0#32
  let v94 : Index := Scalar.indexCast c0_i32_79
  let c6144_i32_77 : BitVec 32 := 6144#32
  let c0_i32_32 : BitVec 32 := 0#32
  let c1_i32_34 : BitVec 32 := 1#32
  let arg9 : BitVec 32 := Scf.iv c0_i32_32 c1_i32_34 k0_t4
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c6144_i32_77 v87
  let v95 : Index := Scalar.indexCast v88
  ![0, v95.toNat]

def k0_chk80 (v98 : IVec S16 32) : Prop :=
  (∀ a x, ((![v98] : Fin 1 → IVec S16 32) a x).toNat < S3072.size a)
theorem k0_idx80_inb : ∀ (v98 : IVec S16 32) (k0_hw80 : k0_chk80 v98), ∀ a x, ((![v98] : Fin 1 → IVec S16 32) a x).toNat < S3072.size a := fun v98 k0_hw80 => k0_hw80
def k0_off96 (k0_t4 : Fin k0_t4_loop.trips) : Fin 2 → Nat :=
  let c1_i32_81 : BitVec 32 := 1#32
  let v100 : Index := Scalar.indexCast c1_i32_81
  let c6144_i32_77 : BitVec 32 := 6144#32
  let c0_i32_32 : BitVec 32 := 0#32
  let c1_i32_34 : BitVec 32 := 1#32
  let arg9 : BitVec 32 := Scf.iv c0_i32_32 c1_i32_34 k0_t4
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c6144_i32_77 v87
  let v101 : Index := Scalar.indexCast v88
  ![1, v101.toNat]

def k0_chk81 (v104 : IVec S16 32) : Prop :=
  (∀ a x, ((![v104] : Fin 1 → IVec S16 32) a x).toNat < S3072.size a)
theorem k0_idx81_inb : ∀ (v104 : IVec S16 32) (k0_hw81 : k0_chk81 v104), ∀ a x, ((![v104] : Fin 1 → IVec S16 32) a x).toNat < S3072.size a := fun v104 k0_hw81 => k0_hw81
def k0_off97 (k0_t4 : Fin k0_t4_loop.trips) : Fin 2 → Nat :=
  let c2_i32_83 : BitVec 32 := 2#32
  let v106 : Index := Scalar.indexCast c2_i32_83
  let c6144_i32_77 : BitVec 32 := 6144#32
  let c0_i32_32 : BitVec 32 := 0#32
  let c1_i32_34 : BitVec 32 := 1#32
  let arg9 : BitVec 32 := Scf.iv c0_i32_32 c1_i32_34 k0_t4
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c6144_i32_77 v87
  let v107 : Index := Scalar.indexCast v88
  ![2, v107.toNat]

def k0_chk82 (v110 : IVec S16 32) : Prop :=
  (∀ a x, ((![v110] : Fin 1 → IVec S16 32) a x).toNat < S3072.size a)
theorem k0_idx82_inb : ∀ (v110 : IVec S16 32) (k0_hw82 : k0_chk82 v110), ∀ a x, ((![v110] : Fin 1 → IVec S16 32) a x).toNat < S3072.size a := fun v110 k0_hw82 => k0_hw82
def k0_off98 (k0_t4 : Fin k0_t4_loop.trips) : Fin 2 → Nat :=
  let c3_i32_85 : BitVec 32 := 3#32
  let v112 : Index := Scalar.indexCast c3_i32_85
  let c6144_i32_77 : BitVec 32 := 6144#32
  let c0_i32_32 : BitVec 32 := 0#32
  let c1_i32_34 : BitVec 32 := 1#32
  let arg9 : BitVec 32 := Scf.iv c0_i32_32 c1_i32_34 k0_t4
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c6144_i32_77 v87
  let v113 : Index := Scalar.indexCast v88
  ![3, v113.toNat]

def k0_chk83 (v116 : IVec S16 32) : Prop :=
  (∀ a x, ((![v116] : Fin 1 → IVec S16 32) a x).toNat < S3072.size a)
theorem k0_idx83_inb : ∀ (v116 : IVec S16 32) (k0_hw83 : k0_chk83 v116), ∀ a x, ((![v116] : Fin 1 → IVec S16 32) a x).toNat < S3072.size a := fun v116 k0_hw83 => k0_hw83
def k0_off99 (k0_t4 : Fin k0_t4_loop.trips) : Fin 2 → Nat :=
  let c4_i32_87 : BitVec 32 := 4#32
  let v118 : Index := Scalar.indexCast c4_i32_87
  let c6144_i32_77 : BitVec 32 := 6144#32
  let c0_i32_32 : BitVec 32 := 0#32
  let c1_i32_34 : BitVec 32 := 1#32
  let arg9 : BitVec 32 := Scf.iv c0_i32_32 c1_i32_34 k0_t4
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c6144_i32_77 v87
  let v119 : Index := Scalar.indexCast v88
  ![4, v119.toNat]

def k0_chk84 (v122 : IVec S16 32) : Prop :=
  (∀ a x, ((![v122] : Fin 1 → IVec S16 32) a x).toNat < S3072.size a)
theorem k0_idx84_inb : ∀ (v122 : IVec S16 32) (k0_hw84 : k0_chk84 v122), ∀ a x, ((![v122] : Fin 1 → IVec S16 32) a x).toNat < S3072.size a := fun v122 k0_hw84 => k0_hw84
def k0_off100 (k0_t4 : Fin k0_t4_loop.trips) : Fin 2 → Nat :=
  let c5_i32_89 : BitVec 32 := 5#32
  let v124 : Index := Scalar.indexCast c5_i32_89
  let c6144_i32_77 : BitVec 32 := 6144#32
  let c0_i32_32 : BitVec 32 := 0#32
  let c1_i32_34 : BitVec 32 := 1#32
  let arg9 : BitVec 32 := Scf.iv c0_i32_32 c1_i32_34 k0_t4
  let c4_i32_74 : BitVec 32 := 4#32
  let v85 : BitVec 32 := Scalar.muli arg9 c4_i32_74
  let c1_i32_75 : BitVec 32 := 1#32
  let v86 : BitVec 32 := Scalar.addi v85 c1_i32_75
  let c16_i32_76 : BitVec 32 := 16#32
  let v87 : BitVec 32 := Scalar.muli v86 c16_i32_76
  let v88 : BitVec 32 := Scalar.addi c6144_i32_77 v87
  let v125 : Index := Scalar.indexCast v88
  ![5, v125.toNat]
def k0_off101 (k0_t4 : Fin k0_t4_loop.trips) : Fin 1 → Nat :=
  let c6144_i32_93 : BitVec 32 := 6144#32
  let c0_i32_32 : BitVec 32 := 0#32
  let c1_i32_34 : BitVec 32 := 1#32
  let arg9 : BitVec 32 := Scf.iv c0_i32_32 c1_i32_34 k0_t4
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c6144_i32_93 v129
  let v131 : Index := Scalar.indexCast v130
  ![v131.toNat]

def k0_chk85 (v134 : IVec S16 32) : Prop :=
  (∀ a x, ((![v134] : Fin 1 → IVec S16 32) a x).toNat < S3072.size a)
theorem k0_idx85_inb : ∀ (v134 : IVec S16 32) (k0_hw85 : k0_chk85 v134), ∀ a x, ((![v134] : Fin 1 → IVec S16 32) a x).toNat < S3072.size a := fun v134 k0_hw85 => k0_hw85
def k0_off102 (k0_t4 : Fin k0_t4_loop.trips) : Fin 2 → Nat :=
  let c0_i32_95 : BitVec 32 := 0#32
  let v136 : Index := Scalar.indexCast c0_i32_95
  let c6144_i32_93 : BitVec 32 := 6144#32
  let c0_i32_32 : BitVec 32 := 0#32
  let c1_i32_34 : BitVec 32 := 1#32
  let arg9 : BitVec 32 := Scf.iv c0_i32_32 c1_i32_34 k0_t4
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c6144_i32_93 v129
  let v137 : Index := Scalar.indexCast v130
  ![0, v137.toNat]

def k0_chk86 (v140 : IVec S16 32) : Prop :=
  (∀ a x, ((![v140] : Fin 1 → IVec S16 32) a x).toNat < S3072.size a)
theorem k0_idx86_inb : ∀ (v140 : IVec S16 32) (k0_hw86 : k0_chk86 v140), ∀ a x, ((![v140] : Fin 1 → IVec S16 32) a x).toNat < S3072.size a := fun v140 k0_hw86 => k0_hw86
def k0_off103 (k0_t4 : Fin k0_t4_loop.trips) : Fin 2 → Nat :=
  let c1_i32_97 : BitVec 32 := 1#32
  let v142 : Index := Scalar.indexCast c1_i32_97
  let c6144_i32_93 : BitVec 32 := 6144#32
  let c0_i32_32 : BitVec 32 := 0#32
  let c1_i32_34 : BitVec 32 := 1#32
  let arg9 : BitVec 32 := Scf.iv c0_i32_32 c1_i32_34 k0_t4
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c6144_i32_93 v129
  let v143 : Index := Scalar.indexCast v130
  ![1, v143.toNat]

def k0_chk87 (v146 : IVec S16 32) : Prop :=
  (∀ a x, ((![v146] : Fin 1 → IVec S16 32) a x).toNat < S3072.size a)
theorem k0_idx87_inb : ∀ (v146 : IVec S16 32) (k0_hw87 : k0_chk87 v146), ∀ a x, ((![v146] : Fin 1 → IVec S16 32) a x).toNat < S3072.size a := fun v146 k0_hw87 => k0_hw87
def k0_off104 (k0_t4 : Fin k0_t4_loop.trips) : Fin 2 → Nat :=
  let c2_i32_99 : BitVec 32 := 2#32
  let v148 : Index := Scalar.indexCast c2_i32_99
  let c6144_i32_93 : BitVec 32 := 6144#32
  let c0_i32_32 : BitVec 32 := 0#32
  let c1_i32_34 : BitVec 32 := 1#32
  let arg9 : BitVec 32 := Scf.iv c0_i32_32 c1_i32_34 k0_t4
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c6144_i32_93 v129
  let v149 : Index := Scalar.indexCast v130
  ![2, v149.toNat]

def k0_chk88 (v152 : IVec S16 32) : Prop :=
  (∀ a x, ((![v152] : Fin 1 → IVec S16 32) a x).toNat < S3072.size a)
theorem k0_idx88_inb : ∀ (v152 : IVec S16 32) (k0_hw88 : k0_chk88 v152), ∀ a x, ((![v152] : Fin 1 → IVec S16 32) a x).toNat < S3072.size a := fun v152 k0_hw88 => k0_hw88
def k0_off105 (k0_t4 : Fin k0_t4_loop.trips) : Fin 2 → Nat :=
  let c3_i32_101 : BitVec 32 := 3#32
  let v154 : Index := Scalar.indexCast c3_i32_101
  let c6144_i32_93 : BitVec 32 := 6144#32
  let c0_i32_32 : BitVec 32 := 0#32
  let c1_i32_34 : BitVec 32 := 1#32
  let arg9 : BitVec 32 := Scf.iv c0_i32_32 c1_i32_34 k0_t4
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c6144_i32_93 v129
  let v155 : Index := Scalar.indexCast v130
  ![3, v155.toNat]

def k0_chk89 (v158 : IVec S16 32) : Prop :=
  (∀ a x, ((![v158] : Fin 1 → IVec S16 32) a x).toNat < S3072.size a)
theorem k0_idx89_inb : ∀ (v158 : IVec S16 32) (k0_hw89 : k0_chk89 v158), ∀ a x, ((![v158] : Fin 1 → IVec S16 32) a x).toNat < S3072.size a := fun v158 k0_hw89 => k0_hw89
def k0_off106 (k0_t4 : Fin k0_t4_loop.trips) : Fin 2 → Nat :=
  let c4_i32_103 : BitVec 32 := 4#32
  let v160 : Index := Scalar.indexCast c4_i32_103
  let c6144_i32_93 : BitVec 32 := 6144#32
  let c0_i32_32 : BitVec 32 := 0#32
  let c1_i32_34 : BitVec 32 := 1#32
  let arg9 : BitVec 32 := Scf.iv c0_i32_32 c1_i32_34 k0_t4
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c6144_i32_93 v129
  let v161 : Index := Scalar.indexCast v130
  ![4, v161.toNat]

def k0_chk90 (v164 : IVec S16 32) : Prop :=
  (∀ a x, ((![v164] : Fin 1 → IVec S16 32) a x).toNat < S3072.size a)
theorem k0_idx90_inb : ∀ (v164 : IVec S16 32) (k0_hw90 : k0_chk90 v164), ∀ a x, ((![v164] : Fin 1 → IVec S16 32) a x).toNat < S3072.size a := fun v164 k0_hw90 => k0_hw90
def k0_off107 (k0_t4 : Fin k0_t4_loop.trips) : Fin 2 → Nat :=
  let c5_i32_105 : BitVec 32 := 5#32
  let v166 : Index := Scalar.indexCast c5_i32_105
  let c6144_i32_93 : BitVec 32 := 6144#32
  let c0_i32_32 : BitVec 32 := 0#32
  let c1_i32_34 : BitVec 32 := 1#32
  let arg9 : BitVec 32 := Scf.iv c0_i32_32 c1_i32_34 k0_t4
  let c4_i32_90 : BitVec 32 := 4#32
  let v127 : BitVec 32 := Scalar.muli arg9 c4_i32_90
  let c2_i32_91 : BitVec 32 := 2#32
  let v128 : BitVec 32 := Scalar.addi v127 c2_i32_91
  let c16_i32_92 : BitVec 32 := 16#32
  let v129 : BitVec 32 := Scalar.muli v128 c16_i32_92
  let v130 : BitVec 32 := Scalar.addi c6144_i32_93 v129
  let v167 : Index := Scalar.indexCast v130
  ![5, v167.toNat]
def k0_off108 (k0_t4 : Fin k0_t4_loop.trips) : Fin 1 → Nat :=
  let c6144_i32_109 : BitVec 32 := 6144#32
  let c0_i32_32 : BitVec 32 := 0#32
  let c1_i32_34 : BitVec 32 := 1#32
  let arg9 : BitVec 32 := Scf.iv c0_i32_32 c1_i32_34 k0_t4
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c6144_i32_109 v171
  let v173 : Index := Scalar.indexCast v172
  ![v173.toNat]

def k0_chk91 (v176 : IVec S16 32) : Prop :=
  (∀ a x, ((![v176] : Fin 1 → IVec S16 32) a x).toNat < S3072.size a)
theorem k0_idx91_inb : ∀ (v176 : IVec S16 32) (k0_hw91 : k0_chk91 v176), ∀ a x, ((![v176] : Fin 1 → IVec S16 32) a x).toNat < S3072.size a := fun v176 k0_hw91 => k0_hw91
def k0_off109 (k0_t4 : Fin k0_t4_loop.trips) : Fin 2 → Nat :=
  let c0_i32_111 : BitVec 32 := 0#32
  let v178 : Index := Scalar.indexCast c0_i32_111
  let c6144_i32_109 : BitVec 32 := 6144#32
  let c0_i32_32 : BitVec 32 := 0#32
  let c1_i32_34 : BitVec 32 := 1#32
  let arg9 : BitVec 32 := Scf.iv c0_i32_32 c1_i32_34 k0_t4
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c6144_i32_109 v171
  let v179 : Index := Scalar.indexCast v172
  ![0, v179.toNat]

def k0_chk92 (v182 : IVec S16 32) : Prop :=
  (∀ a x, ((![v182] : Fin 1 → IVec S16 32) a x).toNat < S3072.size a)
theorem k0_idx92_inb : ∀ (v182 : IVec S16 32) (k0_hw92 : k0_chk92 v182), ∀ a x, ((![v182] : Fin 1 → IVec S16 32) a x).toNat < S3072.size a := fun v182 k0_hw92 => k0_hw92
def k0_off110 (k0_t4 : Fin k0_t4_loop.trips) : Fin 2 → Nat :=
  let c1_i32_113 : BitVec 32 := 1#32
  let v184 : Index := Scalar.indexCast c1_i32_113
  let c6144_i32_109 : BitVec 32 := 6144#32
  let c0_i32_32 : BitVec 32 := 0#32
  let c1_i32_34 : BitVec 32 := 1#32
  let arg9 : BitVec 32 := Scf.iv c0_i32_32 c1_i32_34 k0_t4
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c6144_i32_109 v171
  let v185 : Index := Scalar.indexCast v172
  ![1, v185.toNat]

def k0_chk93 (v188 : IVec S16 32) : Prop :=
  (∀ a x, ((![v188] : Fin 1 → IVec S16 32) a x).toNat < S3072.size a)
theorem k0_idx93_inb : ∀ (v188 : IVec S16 32) (k0_hw93 : k0_chk93 v188), ∀ a x, ((![v188] : Fin 1 → IVec S16 32) a x).toNat < S3072.size a := fun v188 k0_hw93 => k0_hw93
def k0_off111 (k0_t4 : Fin k0_t4_loop.trips) : Fin 2 → Nat :=
  let c2_i32_115 : BitVec 32 := 2#32
  let v190 : Index := Scalar.indexCast c2_i32_115
  let c6144_i32_109 : BitVec 32 := 6144#32
  let c0_i32_32 : BitVec 32 := 0#32
  let c1_i32_34 : BitVec 32 := 1#32
  let arg9 : BitVec 32 := Scf.iv c0_i32_32 c1_i32_34 k0_t4
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c6144_i32_109 v171
  let v191 : Index := Scalar.indexCast v172
  ![2, v191.toNat]

def k0_chk94 (v194 : IVec S16 32) : Prop :=
  (∀ a x, ((![v194] : Fin 1 → IVec S16 32) a x).toNat < S3072.size a)
theorem k0_idx94_inb : ∀ (v194 : IVec S16 32) (k0_hw94 : k0_chk94 v194), ∀ a x, ((![v194] : Fin 1 → IVec S16 32) a x).toNat < S3072.size a := fun v194 k0_hw94 => k0_hw94
def k0_off112 (k0_t4 : Fin k0_t4_loop.trips) : Fin 2 → Nat :=
  let c3_i32_117 : BitVec 32 := 3#32
  let v196 : Index := Scalar.indexCast c3_i32_117
  let c6144_i32_109 : BitVec 32 := 6144#32
  let c0_i32_32 : BitVec 32 := 0#32
  let c1_i32_34 : BitVec 32 := 1#32
  let arg9 : BitVec 32 := Scf.iv c0_i32_32 c1_i32_34 k0_t4
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c6144_i32_109 v171
  let v197 : Index := Scalar.indexCast v172
  ![3, v197.toNat]

def k0_chk95 (v200 : IVec S16 32) : Prop :=
  (∀ a x, ((![v200] : Fin 1 → IVec S16 32) a x).toNat < S3072.size a)
theorem k0_idx95_inb : ∀ (v200 : IVec S16 32) (k0_hw95 : k0_chk95 v200), ∀ a x, ((![v200] : Fin 1 → IVec S16 32) a x).toNat < S3072.size a := fun v200 k0_hw95 => k0_hw95
def k0_off113 (k0_t4 : Fin k0_t4_loop.trips) : Fin 2 → Nat :=
  let c4_i32_119 : BitVec 32 := 4#32
  let v202 : Index := Scalar.indexCast c4_i32_119
  let c6144_i32_109 : BitVec 32 := 6144#32
  let c0_i32_32 : BitVec 32 := 0#32
  let c1_i32_34 : BitVec 32 := 1#32
  let arg9 : BitVec 32 := Scf.iv c0_i32_32 c1_i32_34 k0_t4
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c6144_i32_109 v171
  let v203 : Index := Scalar.indexCast v172
  ![4, v203.toNat]

def k0_chk96 (v206 : IVec S16 32) : Prop :=
  (∀ a x, ((![v206] : Fin 1 → IVec S16 32) a x).toNat < S3072.size a)
theorem k0_idx96_inb : ∀ (v206 : IVec S16 32) (k0_hw96 : k0_chk96 v206), ∀ a x, ((![v206] : Fin 1 → IVec S16 32) a x).toNat < S3072.size a := fun v206 k0_hw96 => k0_hw96
def k0_off114 (k0_t4 : Fin k0_t4_loop.trips) : Fin 2 → Nat :=
  let c5_i32_121 : BitVec 32 := 5#32
  let v208 : Index := Scalar.indexCast c5_i32_121
  let c6144_i32_109 : BitVec 32 := 6144#32
  let c0_i32_32 : BitVec 32 := 0#32
  let c1_i32_34 : BitVec 32 := 1#32
  let arg9 : BitVec 32 := Scf.iv c0_i32_32 c1_i32_34 k0_t4
  let c4_i32_106 : BitVec 32 := 4#32
  let v169 : BitVec 32 := Scalar.muli arg9 c4_i32_106
  let c3_i32_107 : BitVec 32 := 3#32
  let v170 : BitVec 32 := Scalar.addi v169 c3_i32_107
  let c16_i32_108 : BitVec 32 := 16#32
  let v171 : BitVec 32 := Scalar.muli v170 c16_i32_108
  let v172 : BitVec 32 := Scalar.addi c6144_i32_109 v171
  let v209 : Index := Scalar.indexCast v172
  ![5, v209.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x16 : Shape := ⟨2, ![262144, 16]⟩
abbrev S262144 : Shape := ⟨1, ![262144]⟩
abbrev S500x16x16 : Shape := ⟨3, ![500, 16, 16]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144x16x16 : Shape := ⟨3, ![262144, 16, 16]⟩
abbrev S262144x1x16 : Shape := ⟨3, ![262144, 1, 16]⟩
abbrev S262144x16x1 : Shape := ⟨3, ![262144, 16, 1]⟩

abbrev nBuf : Space → Nat
  | .hbm => 86
  | .vmem => 0
  | .smem => 0
  | _ => 0

abbrev bufTy : (tb : Table) → Fin (tcTables nBuf tb) → BufTy
  | .hbm, ⟨0, _⟩ => ⟨S262144x16, .f32⟩
  | .hbm, ⟨1, _⟩ => ⟨S262144, .i32⟩
  | .hbm, ⟨2, _⟩ => ⟨S500x16x16, .f32⟩
  | .hbm, ⟨3, _⟩ => ⟨S500x16x16, .f32⟩
  | .hbm, ⟨4, _⟩ => ⟨S500x16x16, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S1, .i32⟩
  | .hbm, ⟨14, _⟩ => ⟨S_, .i32⟩
  | .hbm, ⟨15, _⟩ => ⟨S262144x1, .i32⟩
  | .hbm, ⟨16, _⟩ => ⟨S262144x1, .i1⟩
  | .hbm, ⟨17, _⟩ => ⟨S1x1, .i32⟩
  | .hbm, ⟨18, _⟩ => ⟨S262144x1, .i32⟩
  | .hbm, ⟨19, _⟩ => ⟨S262144x1, .i1⟩
  | .hbm, ⟨20, _⟩ => ⟨S262144x1, .i1⟩
  | .hbm, ⟨21, _⟩ => ⟨S_, .i1⟩
  | .hbm, ⟨22, _⟩ => ⟨S262144, .i1⟩
  | .hbm, ⟨23, _⟩ => ⟨S262144x16x16, .f32⟩
  | .hbm, ⟨24, _⟩ => ⟨S262144x16x16, .i1⟩
  | .hbm, ⟨25, _⟩ => ⟨S_, .f32⟩
  | .hbm, ⟨26, _⟩ => ⟨S262144x16x16, .f32⟩
  | .hbm, ⟨27, _⟩ => ⟨S262144x16x16, .f32⟩
  | .hbm, ⟨28, _⟩ => ⟨S262144x16x16, .f32⟩
  | .hbm, ⟨29, _⟩ => ⟨S262144x16, .f32⟩
  | .hbm, ⟨30, _⟩ => ⟨S262144x1x16, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S1, .i32⟩
  | .hbm, ⟨40, _⟩ => ⟨S_, .i32⟩
  | .hbm, ⟨41, _⟩ => ⟨S262144x1, .i32⟩
  | .hbm, ⟨42, _⟩ => ⟨S262144x1, .i1⟩
  | .hbm, ⟨43, _⟩ => ⟨S1x1, .i32⟩
  | .hbm, ⟨44, _⟩ => ⟨S262144x1, .i32⟩
  | .hbm, ⟨45, _⟩ => ⟨S262144x1, .i1⟩
  | .hbm, ⟨46, _⟩ => ⟨S262144x1, .i1⟩
  | .hbm, ⟨47, _⟩ => ⟨S_, .i1⟩
  | .hbm, ⟨48, _⟩ => ⟨S262144, .i1⟩
  | .hbm, ⟨49, _⟩ => ⟨S262144x16x16, .f32⟩
  | .hbm, ⟨50, _⟩ => ⟨S262144x16x16, .i1⟩
  | .hbm, ⟨51, _⟩ => ⟨S_, .f32⟩
  | .hbm, ⟨52, _⟩ => ⟨S262144x16x16, .f32⟩
  | .hbm, ⟨53, _⟩ => ⟨S262144x16x16, .f32⟩
  | .hbm, ⟨54, _⟩ => ⟨S262144x16x16, .f32⟩
  | .hbm, ⟨55, _⟩ => ⟨S262144x16x16, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S1, .i32⟩
  | .hbm, ⟨65, _⟩ => ⟨S_, .i32⟩
  | .hbm, ⟨66, _⟩ => ⟨S262144x1, .i32⟩
  | .hbm, ⟨67, _⟩ => ⟨S262144x1, .i1⟩
  | .hbm, ⟨68, _⟩ => ⟨S1x1, .i32⟩
  | .hbm, ⟨69, _⟩ => ⟨S262144x1, .i32⟩
  | .hbm, ⟨70, _⟩ => ⟨S262144x1, .i1⟩
  | .hbm, ⟨71, _⟩ => ⟨S262144x1, .i1⟩
  | .hbm, ⟨72, _⟩ => ⟨S_, .i1⟩
  | .hbm, ⟨73, _⟩ => ⟨S262144, .i1⟩
  | .hbm, ⟨74, _⟩ => ⟨S262144x16x16, .f32⟩
  | .hbm, ⟨75, _⟩ => ⟨S262144x16x16, .i1⟩
  | .hbm, ⟨76, _⟩ => ⟨S_, .f32⟩
  | .hbm, ⟨77, _⟩ => ⟨S262144x16x16, .f32⟩
  | .hbm, ⟨78, _⟩ => ⟨S262144x16x16, .f32⟩
  | .hbm, ⟨79, _⟩ => ⟨S262144x16, .f32⟩
  | .hbm, ⟨80, _⟩ => ⟨S262144x16x1, .f32⟩
  | .hbm, ⟨81, _⟩ => ⟨S_, .f32⟩
  | .hbm, ⟨82, _⟩ => ⟨S262144x16x1, .f32⟩
  | .hbm, ⟨83, _⟩ => ⟨S262144x16x1, .f32⟩
  | .hbm, ⟨84, _⟩ => ⟨S262144x16x16, .f32⟩
  | .hbm, ⟨85, _⟩ => ⟨S262144x16x16, .f32⟩
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v7 : Ref sig .tc := ⟨.hbm, 78, rfl⟩
abbrev main_v8 : Ref sig .tc := ⟨.hbm, 79, rfl⟩
abbrev main_v9 : Ref sig .tc := ⟨.hbm, 80, rfl⟩
abbrev main_cst : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩

abbrev nD : Nat := 1
abbrev τ : Topo := Topo.v7x

variable {F : FTy → Type} [FloatOps F]
-- ==== Proof.Common.lean ====
/-
  What the other modules share: the gather kernel's call as the launch theorem sees it, the resource algebra, the names of
  the buffers, and the table lookup the sixteen-lane gather computes, as a function of the table and of the time steps.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.Diffuse

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program's own functions beside the one pipelined region. -/
abbrev ΛP : Labels := Pipeline.Sig Λ₀ (Fin 1) fun p => (pcfgs (F := F) p).Adm
/-- The SparseCore configuration: one call. -/
abbrev K : SparseCore.Cfg τ sig (ΛP (F := F)) 1 := sc (F := F)
/-- The bodies the launch runs: the pipelined region over the program's own. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on the signature, each decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds are the left factor, -/
abbrev EH : Emb UH (MT nD τ sig (HIx 1) (Elt F) ℕ UU ℕ) := embL
/-- the pipelined region's the middle one, -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP; infer_instance
/-- and the counters the transfers count on the right one. -/
abbrev EC : UEmb Counters (MT nD τ sig (HIx 1) (Elt F) ℕ UU ℕ) := countersEmb (U := UU)

/-! ## The buffers -/

/-- The tables, flattened; the time steps; the looked-up coefficients: as the vector subcores address them. -/
abbrev tblV : Memref sig .scVector .hbm S3072 .f32 := Memref.whole main_v23_scv
abbrev tsV : Memref sig .scVector .hbm S262144 .i32 := Memref.whole main_arg1_scv
abbrev outV : Memref sig .scVector .hbm S6x262144 .f32 := Memref.whole main_v24_scv
/-- A tile's scratches: its copy of the table, its time steps, its looked-up coefficients. -/
abbrev sT : Memref sig .scVector .vmem S3072 .f32 := Memref.whole cc0_scratch0
abbrev sI : Memref sig .scVector .vmem S8192 .i32 := Memref.whole cc0_scratch1
abbrev sB : Memref sig .scVector .vmem S6x8192 .f32 := Memref.whole cc0_scratch2

/-- The SparseCore and the subcore of a grid point. -/
abbrev cV (L : grid0.Coords) : Fin τ.nSC := (L 0).castLE hcore0
abbrev jV (L : grid0.Coords) : Fin τ.nSub := (L 1).castLE hsub0
/-- The tile's thread on device `d`. -/
abbrev tile (d : Dev nD) (L : grid0.Coords) : Thread nD τ := V d (cV L) (jV L)

/-! ## The lookup -/

/-- The table's cell at position `n`, positions taken modulo the table's length. -/
def cell (n : ℕ) : S3072.Idx := Shape.ofLane (d := ![3072]) ⟨n % 3072, Nat.mod_lt _ (by decide)⟩

/-- Coefficient row `c` at time step `v`: the table at `v + 512 c`. -/
def look (tb : S3072.Idx → Elt F .f32) (v : BitVec 32) (c : ℕ) : Elt F .f32 := tb (cell (v.toNat + 512 * c))

/-- What a tile's coefficient scratch is filled with, from its table copy and its time steps: row `c`, column `j` is row
    `c`'s coefficient at the `j`-th time step. -/
def fill (tb : S3072.Idx → Elt F .f32) (ts : S8192.Idx → Elt F .i32) : S6x8192.Idx → Elt F .f32 :=
  fun i => look tb (ts (Shape.ofLane (d := ![8192]) (i 1))) (i 0).val

/-- What the gather kernel leaves in HBM: row `c`, column `n` is row `c`'s coefficient at the `n`-th time step. -/
def coef (tb : S3072.Idx → Elt F .f32) (ts : S262144.Idx → Elt F .i32) : S6x262144.Idx → Elt F .f32 :=
  fun i => look tb (ts (Shape.ofLane (d := ![262144]) (i 1))) (i 0).val

/-- Every time step names a table row: it is below 500. -/
def InTable {s : Shape} (ts : s.Idx → Elt F .i32) : Prop := ∀ j, (show BitVec 32 from ts j).toNat < 500

end Cert.Proof.Diffuse

end
-- ==== Proof.Step.lean ====
/-
  One trip of a tile's counted loop, written once over the offsets the four printed loops compute: four groups, each a load
  of sixteen time steps followed by six lookups, every lookup a gather from the tile's table copy and a store of sixteen
  coefficients. `trip_spec` says what a trip does to the coefficient scratch.
-/
module

public import proofs.«01_k».proof.Proof.Common
public import Idealize.ShloMosaic.Lib.Pipeline.Value

@[expose] public section

noncomputable section

namespace Cert.Proof.Diffuse

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The trip as a program -/

section Prog

variable (L : grid0.Coords)

/-- The programs a tile runs. -/
abbrev TileProg (α : Type) : Type _ := Prog (TpuEff nD τ sig (Elt F) Λ₀ (.scVector ((L 0).castLE hcore0) ((L 1).castLE hsub0))) α

/-- The table positions of row `c`'s coefficients: the time steps, moved by `512 c`. -/
abbrev posn (w : BitVec 32) (v : Vec F S16 .i32) : IVec S16 32 := addi v (broadcast S16 w)

/-- All sixteen positions are inside the table. -/
abbrev Inside (v : IVec S16 32) : Prop := ∀ a x, ((![v] : Fin 1 → IVec S16 32) a x).toNat < S3072.size a

/-- One lookup: check the positions, gather, store the sixteen coefficients at `off`. -/
def lookup (w : BitVec 32) (v : Vec F S16 .i32) (dec : ∀ v, Decidable (Inside v)) (off : Fin 2 → ℕ)
    (inb : ∀ a, off a + S1x16.size a ≤ S6x8192.size a) : TileProg (F := F) L PUnit := do
  have hw : Inside (posn (F := F) w v) := (← Prog.lift (TpuEff.assume (Inside (posn (F := F) w v)) (dec _))).down
  let x : Vec F S16 .f32 ← SparseCore.vectorLoadIdx sT ![posn (F := F) w v] hw (View.loads_vmem h_S3072)
  let _ : Vec F S1x16 .f32 ← Prog.lift (.load sB (Rect.unit (s := S6x8192) off S1x16.size inb).toLoadRect (View.loadsAt_vmem h_S1x16))
  Prog.lift (.store sB (Rect.unit (s := S6x8192) off S1x16.size inb) (shapeCast S1x16 x shapeCasts_S16_S1x16) Finset.univ
    (View.stores_vmem_bits_univ h_S1x16 rfl) (.inl rfl))

/-- One group: the six lookups of sixteen time steps loaded at `o`. -/
def group (dec : Fin 6 → ∀ v, Decidable (Inside v)) (o : Fin 1 → ℕ) (ho : ∀ a, o a + S16.size a ≤ S8192.size a)
    (off : Fin 6 → Fin 2 → ℕ) (inb : ∀ c a, off c a + S1x16.size a ≤ S6x8192.size a) : TileProg (F := F) L PUnit := do
  let v : Vec F S16 .i32 ← Prog.lift (.load sI (Rect.unit (s := S8192) o S16.size ho).toLoadRect (View.loadsAt_vmem h_S16))
  lookup L 0#32 v (dec 0) (off 0) (inb 0)
  lookup L 512#32 v (dec 1) (off 1) (inb 1)
  lookup L 1024#32 v (dec 2) (off 2) (inb 2)
  lookup L 1536#32 v (dec 3) (off 3) (inb 3)
  lookup L 2048#32 v (dec 4) (off 4) (inb 4)
  lookup L 2560#32 v (dec 5) (off 5) (inb 5)

/-- One trip: four groups. -/
def trip (dec : Fin 4 → Fin 6 → ∀ v, Decidable (Inside v)) (o : Fin 4 → Fin 1 → ℕ) (ho : ∀ u a, o u a + S16.size a ≤ S8192.size a)
    (off : Fin 4 → Fin 6 → Fin 2 → ℕ) (inb : ∀ u c a, off u c a + S1x16.size a ≤ S6x8192.size a) : TileProg (F := F) L PUnit := do
  group L (dec 0) (o 0) (ho 0) (off 0) (inb 0)
  group L (dec 1) (o 1) (ho 1) (off 1) (inb 1)
  group L (dec 2) (o 2) (ho 2) (off 2) (inb 2)
  group L (dec 3) (o 3) (ho 3) (off 3) (inb 3)
  pure ⟨⟩

end Prog

/-! ## What a trip does -/

section Spec

variable (d : Dev nD) (L : grid0.Coords)

/-- The columns `[2048 r, 2048 (r + 1))` of the coefficient scratch: what the `r`-th loop fills. -/
def cols (r : ℕ) : Finset S6x8192.Idx := Finset.univ.filter fun i => 2048 * r ≤ (i 1).val ∧ (i 1).val < 2048 * (r + 1)

/-- `f` holds `g` on the columns from `lo` to `n`, and on the sixteen columns from `n` in the first `c` rows. -/
def Filled (g f : S6x8192.Idx → Elt F .f32) (lo n c : ℕ) : Prop :=
  ∀ i : S6x8192.Idx, lo ≤ (i 1).val → ((i 1).val < n ∨ ((i 1).val < n + 16 ∧ (i 0).val < c)) → f i = g i

omit [FloatOps F] in
/-- Six rows of a group are the group. -/
theorem Filled.next {g f : S6x8192.Idx → Elt F .f32} {lo n : ℕ} (h : Filled g f lo n 6) : Filled g f lo (n + 16) 0 :=
  fun i h1 h2 => h i h1 (by have : (i 0).val < 6 := (i 0).isLt; omega)

/-- The tile's table copy, its time steps, and its part `r` of the coefficient scratch filled so far. -/
def Held (tb : S3072.Idx → Elt F .f32) (ts : S8192.Idx → Elt F .i32) (r n c : ℕ) : sProp 𝕄 :=
  iprop(((sT : Memref sig .scVector .vmem S3072 .f32).view.loc (tile d L) ↦{fullShare} tb)
    ∗ ((sI : Memref sig .scVector .vmem S8192 .i32).view.loc (tile d L) ↦{fullShare} ts)
    ∗ ∃ f, ⌜Filled (fill tb ts) f (2048 * r) n c⌝ ∗ (sB : Memref sig .scVector .vmem S6x8192 .f32).view.loc (tile d L) ↦[cols r]{fullShare} f)

/-- The sixteen elements a lookup at row `c`, column `n` stores. -/
abbrev slot (off : Fin 2 → ℕ) (inb : ∀ a, off a + S1x16.size a ≤ S6x8192.size a) : Rect S6x8192 := Rect.unit (s := S6x8192) off S1x16.size inb

omit [FloatOps F] in
theorem slot_subset {off : Fin 2 → ℕ} (inb : ∀ a, off a + S1x16.size a ≤ S6x8192.size a) {r n c : ℕ} (h : off = ![c, n])
    (h1 : 2048 * r ≤ n) (h2 : n + 16 ≤ 2048 * (r + 1)) :
    ((sB : Memref sig .scVector .vmem S6x8192 .f32).access (slot off inb)).set ⊆ cols r := by
  subst h
  intro i hi
  rw [show ((sB : Memref sig .scVector .vmem S6x8192 .f32).access (slot ![c, n] inb)).set = (slot ![c, n] inb).set from View.set_slice_whole _ _,
    Rect.mem_set_unit] at hi
  have := hi 1
  simp only [Matrix.cons_val_one, Matrix.cons_val_zero] at this
  exact Finset.mem_filter.mpr ⟨Finset.mem_univ _, by omega, by omega⟩

omit [FloatOps F] in
theorem posn_toNat {v : BitVec 32} (hv : v.toNat < 500) (c : ℕ) (hc : c < 6) (w : BitVec 32) (hw : w = BitVec.ofNat 32 (512 * c)) :
    (v + w).toNat = v.toNat + 512 * c := by
  subst hw
  rw [BitVec.toNat_add, BitVec.toNat_ofNat, Nat.mod_eq_of_lt (a := 512 * c) (by omega), Nat.mod_eq_of_lt (by omega)]

omit [FloatOps F] in
theorem slot_place {off : Fin 2 → ℕ} (inb : ∀ a, off a + S1x16.size a ≤ S6x8192.size a) {n c : ℕ} (h : off = ![c, n]) (x : S1x16.Idx) :
    ((((sB : Memref sig .scVector .vmem S6x8192 .f32).access (slot off inb)).emb x) 0).val = c + (x 0).val
      ∧ ((((sB : Memref sig .scVector .vmem S6x8192 .f32).access (slot off inb)).emb x) 1).val = n + (x 1).val := by
  subst h
  constructor
  · show c + 1 * (x 0).val = _
    rw [Nat.one_mul]
  · show n + 1 * (x 1).val = _
    rw [Nat.one_mul]

omit [FloatOps F] in
/-- Storing the sixteen gathered coefficients of row `c` fills one more row of the group. -/
theorem filled_store {tb : S3072.Idx → Elt F .f32} {ts : S8192.Idx → Elt F .i32} {f : S6x8192.Idx → Elt F .f32} {lo n c : ℕ}
    (hf : Filled (fill tb ts) f lo n c) {p : IVec S16 32} {at' : S16.Idx → S8192.Idx}
    (hval : ∀ x : S16.Idx, (p x).toNat = (show BitVec 32 from ts (at' x)).toNat + 512 * c)
    (hat : ∀ x : S16.Idx, (at' x 0).val = n + (x 0).val)
    {off : Fin 2 → ℕ} (hoff : off = ![c, n]) (inb : ∀ a, off a + S1x16.size a ≤ S6x8192.size a) (hin : Inside p) :
    Filled (fill tb ts) (((sB : Memref sig .scVector .vmem S6x8192 .f32).access (slot off inb)).write (Elt F) f
      (shapeCast S1x16 (loadIdx (((sT : Memref sig .scVector .vmem S3072 .f32).access (.whole S3072)).read (Elt F) tb) ![p] hin) shapeCasts_S16_S1x16)
      Finset.univ) lo n (c + 1) := by
  intro i hlo hi
  by_cases hm : i ∈ ((sB : Memref sig .scVector .vmem S6x8192 .f32).access (slot off inb)).set
  · obtain ⟨x, -, rfl⟩ := Finset.mem_map.mp hm
    obtain ⟨e0, e1⟩ := slot_place inb hoff x
    rw [View.write_emb_of_mem _ _ (Finset.mem_univ _)]
    have hx0 : (x 0).val = 0 := by have : (x 0).val < 1 := (x 0).isLt; omega
    rw [hx0, Nat.add_zero] at e0
    show shapeCast S1x16 (loadIdx (((sT : Memref sig .scVector .vmem S3072 .f32).access (.whole S3072)).read (Elt F) tb) ![p] hin) shapeCasts_S16_S1x16 x = _
    have e := shapeCast_addUnit_apply (![16]) (loadIdx (((sT : Memref sig .scVector .vmem S3072 .f32).access (.whole S3072)).read (Elt F) tb) ![p] hin)
      shapeCasts_S16_S1x16 x
    refine e.trans ?_
    show (((sT : Memref sig .scVector .vmem S3072 .f32).access (.whole S3072)).read (Elt F) tb) (idxAt ![p] hin fun a => x a.succ) = _
    have ht : ((sT : Memref sig .scVector .vmem S3072 .f32).access (.whole S3072)).read (Elt F) tb = tb := by
      funext y
      refine (View.read_apply _ _).trans ((cast_eq _ _).trans (congrArg tb ?_))
      exact Rect.emb_eq_of_coords _ _ _ fun a => by show (y a).val = 0 + 1 * (y a).val; omega
    rw [ht]
    unfold fill look
    have hp := hval fun a => x a.succ
    have ha : at' (fun a => x a.succ) = Shape.ofLane (d := ![8192]) ((((sB : Memref sig .scVector .vmem S6x8192 .f32).access (slot off inb)).emb x) 1) := by
      funext a; apply Fin.ext
      obtain rfl : a = (0 : Fin 1) := Subsingleton.elim (α := Fin 1) _ _
      exact (hat _).trans e1.symm
    rw [ha] at hp
    have hlt : (p fun a => x a.succ).toNat < 3072 := hin 0 _
    congr 1
    funext a; apply Fin.ext
    obtain rfl : a = (0 : Fin 1) := Subsingleton.elim (α := Fin 1) _ _
    show (p fun a => x a.succ).toNat = (_ + _) % 3072
    rw [e0, ← hp, Nat.mod_eq_of_lt hlt]
  · rw [View.write_of_not_mem _ _ _ (by rwa [View.setOn_univ])]
    refine hf i hlo ?_
    by_contra hcon
    have h0 : (i 0).val = c := by omega
    have h1 : n ≤ (i 1).val ∧ (i 1).val < n + 16 := by omega
    rw [show ((sB : Memref sig .scVector .vmem S6x8192 .f32).access (slot off inb)).set = (slot off inb).set from View.set_slice_whole _ _] at hm
    subst hoff
    refine hm (Rect.mem_set_unit.mpr fun a => ?_)
    match a with
    | 0 => exact ⟨h0.ge, by show (i 0).val < c + 1; omega⟩
    | 1 => exact h1

/-- One lookup of row `c` for the sixteen time steps at column `n`: one more row of the group is filled. -/
theorem lookup_spec {tb : S3072.Idx → Elt F .f32} {ts : S8192.Idx → Elt F .i32} (hts : InTable (F := F) ts) (r n c : ℕ) (hc : c < 6)
    (h1 : 2048 * r ≤ n) (h2 : n + 16 ≤ 2048 * (r + 1)) (w : BitVec 32) (hw : w = BitVec.ofNat 32 (512 * c))
    (v : Vec F S16 .i32) (hv : ∀ (x : S16.Idx) (i : S8192.Idx), (i 0).val = n + (x 0).val → v x = ts i) (dec : ∀ v, Decidable (Inside v))
    (off : Fin 2 → ℕ) (inb : ∀ a, off a + S1x16.size a ≤ S6x8192.size a) (hoff : off = ![c, n]) :
    Held d L tb ts r n c ⊢ wp frame (wpE (defs₀ (F := F)) 𝒱₀ (tile d L) none) Set.univ (lookup L w v dec off inb)
      fun _ => Held d L tb ts r n (c + 1) := by
  have hn : n + 16 ≤ 8192 := by have := inb 1; subst hoff; simpa using this
  have hx : ∀ x : S16.Idx, (x 0).val < 16 := fun x => (x 0).isLt
  have hval : ∀ x : S16.Idx, (posn (F := F) w v x).toNat
      = (show BitVec 32 from ts (Shape.ofLane (d := ![8192]) ⟨n + (x 0).val, show n + (x 0).val < 8192 by have := hx x; omega⟩)).toNat + 512 * c := by
    intro x
    have e := hv x (Shape.ofLane (d := ![8192]) ⟨n + (x 0).val, show n + (x 0).val < 8192 by have := hx x; omega⟩) rfl
    show (IntOp.addi (v x) w).toNat = _
    rw [e]
    exact posn_toNat (hts _) c hc w hw
  have hin : Inside (posn (F := F) w v) := by
    intro a x
    obtain rfl : a = (0 : Fin 1) := Subsingleton.elim (α := Fin 1) _ _
    show (posn (F := F) w v x).toNat < 3072
    rw [hval]
    have := hts (Shape.ofLane (d := ![8192]) ⟨n + (x 0).val, show n + (x 0).val < 8192 by have := hx x; omega⟩)
    omega
  unfold lookup Held
  simp only [Prog.lift, Prog.bind_op, Prog.bind_ret, Prog.pure_eq_ret]
  rw [wp_assume_of _ _ _ _ hin]
  iintro ⟨Ht, Hi, %f, %hf, Hb⟩
  iapply (SparseCore.wp_vectorLoadIdx 𝒱₀ (tile d L) none Set.univ (base := (sT : Memref sig .scVector .vmem S3072 .f32)) (S := Finset.univ) (q := fullShare)
    (Finset.subset_univ _)) $$ Ht
  iintro Ht
  iapply (wp_load_rect 𝒱₀ (tile d L) none Set.univ (m := (sB : Memref sig .scVector .vmem S6x8192 .f32)) (r := slot off inb) (S := cols r) (slot_subset inb hoff h1 h2)) $$ Hb
  iintro Hb
  iapply (wp_store 𝒱₀ (tile d L) none Set.univ (m := (sB : Memref sig .scVector .vmem S6x8192 .f32)) (r := slot off inb) (Mk := Finset.univ) (S := cols r)
    (by rw [View.setOn_univ]; exact slot_subset inb hoff h1 h2)) $$ Hb
  iintro Hb
  rw [wp_ret]; imodintro
  isplitl [Ht]; · iexact Ht
  isplitl [Hi]; · iexact Hi
  iexists _
  isplitr
  rotate_left
  · iexact Hb
  ipureintro
  exact filled_store hf hval (fun _ => rfl) hoff inb hin

omit [FloatOps F] in
/-- Sixteen time steps loaded at column `n` are the tile's time steps from `n`. -/
theorem steps_read {ts : S8192.Idx → Elt F .i32} {n : ℕ} {o : Fin 1 → ℕ} (ho : ∀ a, o a + S16.size a ≤ S8192.size a) (hn : o = ![n])
    (x : S16.Idx) (i : S8192.Idx) (hi : (i 0).val = n + (x 0).val) :
    (sI : Memref sig .scVector .vmem S8192 .i32).view.readAt (Elt F) (Rect.unit (s := S8192) o S16.size ho).toLoadRect ts x = ts i := by
  subst hn
  refine (View.readAt_apply _ _ _).trans (congrArg ts ?_)
  funext a; apply Fin.ext
  obtain rfl : a = (0 : Fin 1) := Subsingleton.elim (α := Fin 1) _ _
  show n + 1 * (x 0).val = (i 0).val
  omega

/-- Two programs in a row, by what holds between them. -/
theorem seq {α β : Type} {R R' : sProp 𝕄} {p : TileProg (F := F) L α} {k : α → TileProg (F := F) L β} {Q : β → sProp 𝕄}
    (h : R ⊢ wp frame (wpE (defs₀ (F := F)) 𝒱₀ (tile d L) none) Set.univ p fun _ => R')
    (h' : ∀ a, R' ⊢ wp frame (wpE (defs₀ (F := F)) 𝒱₀ (tile d L) none) Set.univ (k a) Q) :
    R ⊢ wp frame (wpE (defs₀ (F := F)) 𝒱₀ (tile d L) none) Set.univ (p >>= k) Q := by
  rw [wp_bind]
  exact h.trans (wp_mono frame _ _ h')

/-- One group at column `n`: its sixteen columns are filled. -/
theorem group_spec {tb : S3072.Idx → Elt F .f32} {ts : S8192.Idx → Elt F .i32} (hts : InTable (F := F) ts) (r n : ℕ)
    (h1 : 2048 * r ≤ n) (h2 : n + 16 ≤ 2048 * (r + 1)) (dec : Fin 6 → ∀ v, Decidable (Inside v))
    (o : Fin 1 → ℕ) (ho : ∀ a, o a + S16.size a ≤ S8192.size a) (hn : o = ![n])
    (off : Fin 6 → Fin 2 → ℕ) (inb : ∀ c a, off c a + S1x16.size a ≤ S6x8192.size a) (hoff : ∀ c, off c = ![c.val, n]) :
    Held d L tb ts r n 0 ⊢ wp frame (wpE (defs₀ (F := F)) 𝒱₀ (tile d L) none) Set.univ (group L dec o ho off inb)
      fun _ => Held d L tb ts r (n + 16) 0 := by
  unfold group
  simp only [Prog.lift, Prog.bind_op, Prog.bind_ret]
  have hv := fun x i hi => steps_read (F := F) (ts := ts) ho hn x i hi
  have rest : Held d L tb ts r n 0 ⊢ wp frame (wpE (defs₀ (F := F)) 𝒱₀ (tile d L) none) Set.univ (do
      lookup L 0#32 _ (dec 0) (off 0) (inb 0)
      lookup L 512#32 _ (dec 1) (off 1) (inb 1)
      lookup L 1024#32 _ (dec 2) (off 2) (inb 2)
      lookup L 1536#32 _ (dec 3) (off 3) (inb 3)
      lookup L 2048#32 _ (dec 4) (off 4) (inb 4)
      lookup L 2560#32 _ (dec 5) (off 5) (inb 5)) fun _ => Held d L tb ts r (n + 16) 0 :=
    seq d L (lookup_spec d L hts r n 0 (by decide) h1 h2 _ rfl _ hv _ _ (inb 0) (hoff 0)) fun _ =>
    seq d L (lookup_spec d L hts r n 1 (by decide) h1 h2 _ rfl _ hv _ _ (inb 1) (hoff 1)) fun _ =>
    seq d L (lookup_spec d L hts r n 2 (by decide) h1 h2 _ rfl _ hv _ _ (inb 2) (hoff 2)) fun _ =>
    seq d L (lookup_spec d L hts r n 3 (by decide) h1 h2 _ rfl _ hv _ _ (inb 3) (hoff 3)) fun _ =>
    seq d L (lookup_spec d L hts r n 4 (by decide) h1 h2 _ rfl _ hv _ _ (inb 4) (hoff 4)) fun _ =>
    (lookup_spec d L hts r n 5 (by decide) h1 h2 _ rfl _ hv _ _ (inb 5) (hoff 5)).trans (wp_mono frame _ _ fun _ => by
      unfold Held
      iintro ⟨Ht, Hi, %f, %hf, Hb⟩
      isplitl [Ht]; · iexact Ht
      isplitl [Hi]; · iexact Hi
      iexists f; isplitr
      · ipureintro; exact hf.next
      · iexact Hb)
  generalize (fun _ : PUnit => (Held d L tb ts r (n + 16) 0 : sProp 𝕄)) = Q at rest ⊢
  unfold Held at rest ⊢
  iintro ⟨Ht, Hi, Hb⟩
  iapply (wp_load 𝒱₀ (tile d L) none Set.univ (m := (sI : Memref sig .scVector .vmem S8192 .i32)) (S := Finset.univ) (Finset.subset_univ _)) $$ Hi
  iintro Hi
  iapply rest
  isplitl [Ht]; · iexact Ht
  isplitl [Hi]; · iexact Hi
  iexact Hb

/-- One trip at column `n`: its sixty-four columns are filled. -/
theorem trip_spec {tb : S3072.Idx → Elt F .f32} {ts : S8192.Idx → Elt F .i32} (hts : InTable (F := F) ts) (r n : ℕ)
    (h1 : 2048 * r ≤ n) (h2 : n + 64 ≤ 2048 * (r + 1)) (dec : Fin 4 → Fin 6 → ∀ v, Decidable (Inside v))
    (o : Fin 4 → Fin 1 → ℕ) (ho : ∀ u a, o u a + S16.size a ≤ S8192.size a) (hn : ∀ u, o u = ![n + 16 * u.val])
    (off : Fin 4 → Fin 6 → Fin 2 → ℕ) (inb : ∀ u c a, off u c a + S1x16.size a ≤ S6x8192.size a)
    (hoff : ∀ u c, off u c = ![c.val, n + 16 * u.val]) :
    Held d L tb ts r n 0 ⊢ wp frame (wpE (defs₀ (F := F)) 𝒱₀ (tile d L) none) Set.univ (trip L dec o ho off inb)
      fun _ => Held d L tb ts r (n + 64) 0 :=
  seq d L (group_spec d L hts r n h1 (by omega) _ _ (ho 0) (hn 0) _ (inb 0) (hoff 0)) fun _ =>
  seq d L (group_spec d L hts r (n + 16) (by omega) (by omega) _ _ (ho 1) (hn 1) _ (inb 1) (hoff 1)) fun _ =>
  seq d L (group_spec d L hts r (n + 32) (by omega) (by omega) _ _ (ho 2) (hn 2) _ (inb 2) (hoff 2)) fun _ =>
  seq d L (group_spec d L hts r (n + 48) (by omega) (by omega) _ _ (ho 3) (hn 3) _ (inb 3) (hoff 3)) fun _ => by
    rw [Prog.pure_eq_ret, wp_ret]
    iintro H; imodintro; iexact H

end Spec

end Cert.Proof.Diffuse

end
-- ==== Proof.Loops.lean ====
/-
  The four printed loops of the gather kernel are the trip of `Step.lean` at the offsets they compute: loop `r`'s trip `k`
  reads the time steps at column `2048 r + 64 k + 16 u` for the groups `u < 4`, and stores row `c` at that column. So each
  trip fills its sixty-four columns (`body1_spec` … `body4_spec`).
-/
module

public import proofs.«01_k».proof.Proof.Step

@[expose] public section

noncomputable section

namespace Cert.Proof.Diffuse

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

omit [FloatOps F] in
/-- Two programs are the same that begin with the same effect and go on alike. -/
theorem op_eq {α β : Type} {e e' : TpuEff nD τ sig (Elt F) Λ₀ (.scVector ((L 0).castLE hcore0) ((L 1).castLE hsub0)) β}
    {k k' : β → TileProg (F := F) L α} (he : e = e') (hk : ∀ x, k x = k' x) : (Prog.op e k : TileProg (F := F) L α) = Prog.op e' k' := by
  subst he; exact congrArg _ (funext hk)

/-! ### Loop 1: columns from 0 -/

/-- Where loop 1's groups load their time steps, -/
def stepsAt1 (k : Fin k0_t1_loop.trips) : Fin 4 → Fin 1 → ℕ := ![k0_off2 k, k0_off9 k, k0_off16 k, k0_off23 k]
/-- where they store their coefficients, -/
def rowsAt1 (k : Fin k0_t1_loop.trips) : Fin 4 → Fin 6 → Fin 2 → ℕ :=
  ![![k0_off3 k, k0_off4 k, k0_off5 k, k0_off6 k, k0_off7 k, k0_off8 k],
    ![k0_off10 k, k0_off11 k, k0_off12 k, k0_off13 k, k0_off14 k, k0_off15 k],
    ![k0_off17 k, k0_off18 k, k0_off19 k, k0_off20 k, k0_off21 k, k0_off22 k],
    ![k0_off24 k, k0_off25 k, k0_off26 k, k0_off27 k, k0_off28 k, k0_off29 k]]
/-- and how each check of the positions is decided. -/
def dec1 : Fin 4 → Fin 6 → ∀ v, Decidable (Inside v) :=
  ![![k0_chk1.dec, k0_chk2.dec, k0_chk3.dec, k0_chk4.dec, k0_chk5.dec, k0_chk6.dec],
    ![k0_chk7.dec, k0_chk8.dec, k0_chk9.dec, k0_chk10.dec, k0_chk11.dec, k0_chk12.dec],
    ![k0_chk13.dec, k0_chk14.dec, k0_chk15.dec, k0_chk16.dec, k0_chk17.dec, k0_chk18.dec],
    ![k0_chk19.dec, k0_chk20.dec, k0_chk21.dec, k0_chk22.dec, k0_chk23.dec, k0_chk24.dec]]

omit [FloatOps F] in
theorem trips1 : k0_t1_loop.trips = 32 := by decide +kernel
theorem stepsAt1_eq : ∀ (k : Fin k0_t1_loop.trips) (u : Fin 4), stepsAt1 k u = ![0 + 64 * k.val + 16 * u.val] := by decide +kernel
theorem rowsAt1_eq : ∀ (k : Fin k0_t1_loop.trips) (u : Fin 4) (c : Fin 6), rowsAt1 k u c = ![c.val, 0 + 64 * k.val + 16 * u.val] := by
  decide +kernel
theorem stepsAt1_inb (k : Fin k0_t1_loop.trips) (u : Fin 4) : ∀ a, stepsAt1 k u a + S16.size a ≤ S8192.size a := by
  intro a
  have hk : k.val < 32 := lt_of_lt_of_eq k.isLt trips1
  rw [stepsAt1_eq]
  obtain rfl : a = 0 := Subsingleton.elim _ _
  show 0 + 64 * k.val + 16 * u.val + 16 ≤ 8192
  omega
theorem rowsAt1_inb (k : Fin k0_t1_loop.trips) (u : Fin 4) (c : Fin 6) : ∀ a, rowsAt1 k u c a + S1x16.size a ≤ S6x8192.size a := by
  intro a
  have hk : k.val < 32 := lt_of_lt_of_eq k.isLt trips1
  rw [rowsAt1_eq]
  match a with
  | 0 => show c.val + 1 ≤ 6; omega
  | 1 => show 0 + 64 * k.val + 16 * u.val + 16 ≤ 8192; omega

set_option maxRecDepth 65536 in
set_option maxHeartbeats 2000000 in
/-- The printed trip of loop 1 is the trip at loop 1's offsets. -/
theorem body1_eq (s r0 r1 : DmaSems sig S_) (k : Fin k0_t1_loop.trips) :
    k0_t1_body (F := F) L tblV (Memref.isWhole_whole _) tsV (Memref.isWhole_whole _) outV (Memref.isWhole_whole _)
        sT (Memref.isWhole_whole _) sI (Memref.isWhole_whole _) sB (Memref.isWhole_whole _) s r0 r1 k ()
      = trip L dec1 (stepsAt1 k) (stepsAt1_inb k) (rowsAt1 k) (rowsAt1_inb k) := by
  unfold k0_t1_body trip group lookup
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [bind_assoc, pure_bind, SparseCore.vectorLoadIdx, Prog.lift, Prog.bind_op, Prog.bind_ret, Prog.pure_eq_ret]
  dsimp only [rowsAt1, stepsAt1, dec1, Matrix.cons_val]
  repeat (refine op_eq rfl fun _ => ?_)
  rfl

/-- Loop 1's trip `k` fills the sixty-four columns from `0 + 64 k`. -/
theorem body1_spec {tb : S3072.Idx → Elt F .f32} {ts : S8192.Idx → Elt F .i32} (hts : InTable (F := F) ts) (s r0 r1 : DmaSems sig S_)
    (k : Fin k0_t1_loop.trips) :
    Held d L tb ts 0 (0 + 64 * k.val) 0 ⊢ wp frame (wpE (defs₀ (F := F)) 𝒱₀ (tile d L) none) Set.univ
      (k0_t1_body (F := F) L tblV (Memref.isWhole_whole _) tsV (Memref.isWhole_whole _) outV (Memref.isWhole_whole _)
        sT (Memref.isWhole_whole _) sI (Memref.isWhole_whole _) sB (Memref.isWhole_whole _) s r0 r1 k ())
      fun _ => Held d L tb ts 0 (0 + 64 * (k.val + 1)) 0 := by
  have hk : k.val < 32 := lt_of_lt_of_eq k.isLt trips1
  rw [body1_eq]
  exact trip_spec d L hts 0 (0 + 64 * k.val) (by omega) (by omega) _ _ (stepsAt1_inb k) (stepsAt1_eq k) _ (rowsAt1_inb k) (rowsAt1_eq k)

/-! ### Loop 2: columns from 2048 -/

/-- Where loop 2's groups load their time steps, -/
def stepsAt2 (k : Fin k0_t2_loop.trips) : Fin 4 → Fin 1 → ℕ := ![k0_off31 k, k0_off38 k, k0_off45 k, k0_off52 k]
/-- where they store their coefficients, -/
def rowsAt2 (k : Fin k0_t2_loop.trips) : Fin 4 → Fin 6 → Fin 2 → ℕ :=
  ![![k0_off32 k, k0_off33 k, k0_off34 k, k0_off35 k, k0_off36 k, k0_off37 k],
    ![k0_off39 k, k0_off40 k, k0_off41 k, k0_off42 k, k0_off43 k, k0_off44 k],
    ![k0_off46 k, k0_off47 k, k0_off48 k, k0_off49 k, k0_off50 k, k0_off51 k],
    ![k0_off53 k, k0_off54 k, k0_off55 k, k0_off56 k, k0_off57 k, k0_off58 k]]
/-- and how each check of the positions is decided. -/
def dec2 : Fin 4 → Fin 6 → ∀ v, Decidable (Inside v) :=
  ![![k0_chk25.dec, k0_chk26.dec, k0_chk27.dec, k0_chk28.dec, k0_chk29.dec, k0_chk30.dec],
    ![k0_chk31.dec, k0_chk32.dec, k0_chk33.dec, k0_chk34.dec, k0_chk35.dec, k0_chk36.dec],
    ![k0_chk37.dec, k0_chk38.dec, k0_chk39.dec, k0_chk40.dec, k0_chk41.dec, k0_chk42.dec],
    ![k0_chk43.dec, k0_chk44.dec, k0_chk45.dec, k0_chk46.dec, k0_chk47.dec, k0_chk48.dec]]

omit [FloatOps F] in
theorem trips2 : k0_t2_loop.trips = 32 := by decide +kernel
theorem stepsAt2_eq : ∀ (k : Fin k0_t2_loop.trips) (u : Fin 4), stepsAt2 k u = ![2048 + 64 * k.val + 16 * u.val] := by decide +kernel
theorem rowsAt2_eq : ∀ (k : Fin k0_t2_loop.trips) (u : Fin 4) (c : Fin 6), rowsAt2 k u c = ![c.val, 2048 + 64 * k.val + 16 * u.val] := by
  decide +kernel
theorem stepsAt2_inb (k : Fin k0_t2_loop.trips) (u : Fin 4) : ∀ a, stepsAt2 k u a + S16.size a ≤ S8192.size a := by
  intro a
  have hk : k.val < 32 := lt_of_lt_of_eq k.isLt trips2
  rw [stepsAt2_eq]
  obtain rfl : a = 0 := Subsingleton.elim _ _
  show 2048 + 64 * k.val + 16 * u.val + 16 ≤ 8192
  omega
theorem rowsAt2_inb (k : Fin k0_t2_loop.trips) (u : Fin 4) (c : Fin 6) : ∀ a, rowsAt2 k u c a + S1x16.size a ≤ S6x8192.size a := by
  intro a
  have hk : k.val < 32 := lt_of_lt_of_eq k.isLt trips2
  rw [rowsAt2_eq]
  match a with
  | 0 => show c.val + 1 ≤ 6; omega
  | 1 => show 2048 + 64 * k.val + 16 * u.val + 16 ≤ 8192; omega

set_option maxRecDepth 65536 in
set_option maxHeartbeats 2000000 in
/-- The printed trip of loop 2 is the trip at loop 2's offsets. -/
theorem body2_eq (s r0 r1 : DmaSems sig S_) (k : Fin k0_t2_loop.trips) :
    k0_t2_body (F := F) L tblV (Memref.isWhole_whole _) tsV (Memref.isWhole_whole _) outV (Memref.isWhole_whole _)
        sT (Memref.isWhole_whole _) sI (Memref.isWhole_whole _) sB (Memref.isWhole_whole _) s r0 r1 k ()
      = trip L dec2 (stepsAt2 k) (stepsAt2_inb k) (rowsAt2 k) (rowsAt2_inb k) := by
  unfold k0_t2_body trip group lookup
  rw [k0_part6_eq_skeleton, k0_part7_eq_skeleton, k0_part8_eq_skeleton, k0_part9_eq_skeleton, k0_part10_eq_skeleton]
  unfold k0_part6_skel k0_part7_skel k0_part8_skel k0_part9_skel k0_part10_skel
  simp only [bind_assoc, pure_bind, SparseCore.vectorLoadIdx, Prog.lift, Prog.bind_op, Prog.bind_ret, Prog.pure_eq_ret]
  dsimp only [rowsAt2, stepsAt2, dec2, Matrix.cons_val]
  repeat (refine op_eq rfl fun _ => ?_)
  rfl

/-- Loop 2's trip `k` fills the sixty-four columns from `2048 + 64 k`. -/
theorem body2_spec {tb : S3072.Idx → Elt F .f32} {ts : S8192.Idx → Elt F .i32} (hts : InTable (F := F) ts) (s r0 r1 : DmaSems sig S_)
    (k : Fin k0_t2_loop.trips) :
    Held d L tb ts 1 (2048 + 64 * k.val) 0 ⊢ wp frame (wpE (defs₀ (F := F)) 𝒱₀ (tile d L) none) Set.univ
      (k0_t2_body (F := F) L tblV (Memref.isWhole_whole _) tsV (Memref.isWhole_whole _) outV (Memref.isWhole_whole _)
        sT (Memref.isWhole_whole _) sI (Memref.isWhole_whole _) sB (Memref.isWhole_whole _) s r0 r1 k ())
      fun _ => Held d L tb ts 1 (2048 + 64 * (k.val + 1)) 0 := by
  have hk : k.val < 32 := lt_of_lt_of_eq k.isLt trips2
  rw [body2_eq]
  exact trip_spec d L hts 1 (2048 + 64 * k.val) (by omega) (by omega) _ _ (stepsAt2_inb k) (stepsAt2_eq k) _ (rowsAt2_inb k) (rowsAt2_eq k)

/-! ### Loop 3: columns from 4096 -/

/-- Where loop 3's groups load their time steps, -/
def stepsAt3 (k : Fin k0_t3_loop.trips) : Fin 4 → Fin 1 → ℕ := ![k0_off59 k, k0_off66 k, k0_off73 k, k0_off80 k]
/-- where they store their coefficients, -/
def rowsAt3 (k : Fin k0_t3_loop.trips) : Fin 4 → Fin 6 → Fin 2 → ℕ :=
  ![![k0_off60 k, k0_off61 k, k0_off62 k, k0_off63 k, k0_off64 k, k0_off65 k],
    ![k0_off67 k, k0_off68 k, k0_off69 k, k0_off70 k, k0_off71 k, k0_off72 k],
    ![k0_off74 k, k0_off75 k, k0_off76 k, k0_off77 k, k0_off78 k, k0_off79 k],
    ![k0_off81 k, k0_off82 k, k0_off83 k, k0_off84 k, k0_off85 k, k0_off86 k]]
/-- and how each check of the positions is decided. -/
def dec3 : Fin 4 → Fin 6 → ∀ v, Decidable (Inside v) :=
  ![![k0_chk49.dec, k0_chk50.dec, k0_chk51.dec, k0_chk52.dec, k0_chk53.dec, k0_chk54.dec],
    ![k0_chk55.dec, k0_chk56.dec, k0_chk57.dec, k0_chk58.dec, k0_chk59.dec, k0_chk60.dec],
    ![k0_chk61.dec, k0_chk62.dec, k0_chk63.dec, k0_chk64.dec, k0_chk65.dec, k0_chk66.dec],
    ![k0_chk67.dec, k0_chk68.dec, k0_chk69.dec, k0_chk70.dec, k0_chk71.dec, k0_chk72.dec]]

omit [FloatOps F] in
theorem trips3 : k0_t3_loop.trips = 32 := by decide +kernel
theorem stepsAt3_eq : ∀ (k : Fin k0_t3_loop.trips) (u : Fin 4), stepsAt3 k u = ![4096 + 64 * k.val + 16 * u.val] := by decide +kernel
theorem rowsAt3_eq : ∀ (k : Fin k0_t3_loop.trips) (u : Fin 4) (c : Fin 6), rowsAt3 k u c = ![c.val, 4096 + 64 * k.val + 16 * u.val] := by
  decide +kernel
theorem stepsAt3_inb (k : Fin k0_t3_loop.trips) (u : Fin 4) : ∀ a, stepsAt3 k u a + S16.size a ≤ S8192.size a := by
  intro a
  have hk : k.val < 32 := lt_of_lt_of_eq k.isLt trips3
  rw [stepsAt3_eq]
  obtain rfl : a = 0 := Subsingleton.elim _ _
  show 4096 + 64 * k.val + 16 * u.val + 16 ≤ 8192
  omega
theorem rowsAt3_inb (k : Fin k0_t3_loop.trips) (u : Fin 4) (c : Fin 6) : ∀ a, rowsAt3 k u c a + S1x16.size a ≤ S6x8192.size a := by
  intro a
  have hk : k.val < 32 := lt_of_lt_of_eq k.isLt trips3
  rw [rowsAt3_eq]
  match a with
  | 0 => show c.val + 1 ≤ 6; omega
  | 1 => show 4096 + 64 * k.val + 16 * u.val + 16 ≤ 8192; omega

set_option maxRecDepth 65536 in
set_option maxHeartbeats 2000000 in
/-- The printed trip of loop 3 is the trip at loop 3's offsets. -/
theorem body3_eq (s r0 r1 : DmaSems sig S_) (v2 : BitVec 32) (k : Fin k0_t3_loop.trips) :
    k0_t3_body (F := F) L tblV (Memref.isWhole_whole _) tsV (Memref.isWhole_whole _) outV (Memref.isWhole_whole _)
        sT (Memref.isWhole_whole _) sI (Memref.isWhole_whole _) sB (Memref.isWhole_whole _) s r0 r1 v2 0#32 1#32 k ()
      = trip L dec3 (stepsAt3 k) (stepsAt3_inb k) (rowsAt3 k) (rowsAt3_inb k) := by
  unfold k0_t3_body trip group lookup
  rw [k0_part11_eq_skeleton, k0_part12_eq_skeleton, k0_part13_eq_skeleton, k0_part14_eq_skeleton, k0_part15_eq_skeleton]
  unfold k0_part11_skel k0_part12_skel k0_part13_skel k0_part14_skel k0_part15_skel
  simp only [bind_assoc, pure_bind, SparseCore.vectorLoadIdx, Prog.lift, Prog.bind_op, Prog.bind_ret, Prog.pure_eq_ret]
  dsimp only [rowsAt3, stepsAt3, dec3, Matrix.cons_val]
  repeat (refine op_eq rfl fun _ => ?_)
  rfl

/-- Loop 3's trip `k` fills the sixty-four columns from `4096 + 64 k`. -/
theorem body3_spec {tb : S3072.Idx → Elt F .f32} {ts : S8192.Idx → Elt F .i32} (hts : InTable (F := F) ts) (s r0 r1 : DmaSems sig S_) (v2 : BitVec 32)
    (k : Fin k0_t3_loop.trips) :
    Held d L tb ts 2 (4096 + 64 * k.val) 0 ⊢ wp frame (wpE (defs₀ (F := F)) 𝒱₀ (tile d L) none) Set.univ
      (k0_t3_body (F := F) L tblV (Memref.isWhole_whole _) tsV (Memref.isWhole_whole _) outV (Memref.isWhole_whole _)
        sT (Memref.isWhole_whole _) sI (Memref.isWhole_whole _) sB (Memref.isWhole_whole _) s r0 r1 v2 0#32 1#32 k ())
      fun _ => Held d L tb ts 2 (4096 + 64 * (k.val + 1)) 0 := by
  have hk : k.val < 32 := lt_of_lt_of_eq k.isLt trips3
  rw [body3_eq]
  exact trip_spec d L hts 2 (4096 + 64 * k.val) (by omega) (by omega) _ _ (stepsAt3_inb k) (stepsAt3_eq k) _ (rowsAt3_inb k) (rowsAt3_eq k)

/-! ### Loop 4: columns from 6144 -/

/-- Where loop 4's groups load their time steps, -/
def stepsAt4 (k : Fin k0_t4_loop.trips) : Fin 4 → Fin 1 → ℕ := ![k0_off87 k, k0_off94 k, k0_off101 k, k0_off108 k]
/-- where they store their coefficients, -/
def rowsAt4 (k : Fin k0_t4_loop.trips) : Fin 4 → Fin 6 → Fin 2 → ℕ :=
  ![![k0_off88 k, k0_off89 k, k0_off90 k, k0_off91 k, k0_off92 k, k0_off93 k],
    ![k0_off95 k, k0_off96 k, k0_off97 k, k0_off98 k, k0_off99 k, k0_off100 k],
    ![k0_off102 k, k0_off103 k, k0_off104 k, k0_off105 k, k0_off106 k, k0_off107 k],
    ![k0_off109 k, k0_off110 k, k0_off111 k, k0_off112 k, k0_off113 k, k0_off114 k]]
/-- and how each check of the positions is decided. -/
def dec4 : Fin 4 → Fin 6 → ∀ v, Decidable (Inside v) :=
  ![![k0_chk73.dec, k0_chk74.dec, k0_chk75.dec, k0_chk76.dec, k0_chk77.dec, k0_chk78.dec],
    ![k0_chk79.dec, k0_chk80.dec, k0_chk81.dec, k0_chk82.dec, k0_chk83.dec, k0_chk84.dec],
    ![k0_chk85.dec, k0_chk86.dec, k0_chk87.dec, k0_chk88.dec, k0_chk89.dec, k0_chk90.dec],
    ![k0_chk91.dec, k0_chk92.dec, k0_chk93.dec, k0_chk94.dec, k0_chk95.dec, k0_chk96.dec]]

omit [FloatOps F] in
theorem trips4 : k0_t4_loop.trips = 32 := by decide +kernel
theorem stepsAt4_eq : ∀ (k : Fin k0_t4_loop.trips) (u : Fin 4), stepsAt4 k u = ![6144 + 64 * k.val + 16 * u.val] := by decide +kernel
theorem rowsAt4_eq : ∀ (k : Fin k0_t4_loop.trips) (u : Fin 4) (c : Fin 6), rowsAt4 k u c = ![c.val, 6144 + 64 * k.val + 16 * u.val] := by
  decide +kernel
theorem stepsAt4_inb (k : Fin k0_t4_loop.trips) (u : Fin 4) : ∀ a, stepsAt4 k u a + S16.size a ≤ S8192.size a := by
  intro a
  have hk : k.val < 32 := lt_of_lt_of_eq k.isLt trips4
  rw [stepsAt4_eq]
  obtain rfl : a = 0 := Subsingleton.elim _ _
  show 6144 + 64 * k.val + 16 * u.val + 16 ≤ 8192
  omega
theorem rowsAt4_inb (k : Fin k0_t4_loop.trips) (u : Fin 4) (c : Fin 6) : ∀ a, rowsAt4 k u c a + S1x16.size a ≤ S6x8192.size a := by
  intro a
  have hk : k.val < 32 := lt_of_lt_of_eq k.isLt trips4
  rw [rowsAt4_eq]
  match a with
  | 0 => show c.val + 1 ≤ 6; omega
  | 1 => show 6144 + 64 * k.val + 16 * u.val + 16 ≤ 8192; omega

set_option maxRecDepth 65536 in
set_option maxHeartbeats 2000000 in
/-- The printed trip of loop 4 is the trip at loop 4's offsets. -/
theorem body4_eq (s r0 r1 : DmaSems sig S_) (v2 : BitVec 32) (k : Fin k0_t4_loop.trips) :
    k0_t4_body (F := F) L tblV (Memref.isWhole_whole _) tsV (Memref.isWhole_whole _) outV (Memref.isWhole_whole _)
        sT (Memref.isWhole_whole _) sI (Memref.isWhole_whole _) sB (Memref.isWhole_whole _) s r0 r1 v2 0#32 1#32 k ()
      = trip L dec4 (stepsAt4 k) (stepsAt4_inb k) (rowsAt4 k) (rowsAt4_inb k) := by
  unfold k0_t4_body trip group lookup
  rw [k0_part16_eq_skeleton, k0_part17_eq_skeleton, k0_part18_eq_skeleton, k0_part19_eq_skeleton, k0_part20_eq_skeleton]
  unfold k0_part16_skel k0_part17_skel k0_part18_skel k0_part19_skel k0_part20_skel
  simp only [bind_assoc, pure_bind, SparseCore.vectorLoadIdx, Prog.lift, Prog.bind_op, Prog.bind_ret, Prog.pure_eq_ret]
  dsimp only [rowsAt4, stepsAt4, dec4, Matrix.cons_val]
  repeat (refine op_eq rfl fun _ => ?_)
  rfl

/-- Loop 4's trip `k` fills the sixty-four columns from `6144 + 64 k`. -/
theorem body4_spec {tb : S3072.Idx → Elt F .f32} {ts : S8192.Idx → Elt F .i32} (hts : InTable (F := F) ts) (s r0 r1 : DmaSems sig S_) (v2 : BitVec 32)
    (k : Fin k0_t4_loop.trips) :
    Held d L tb ts 3 (6144 + 64 * k.val) 0 ⊢ wp frame (wpE (defs₀ (F := F)) 𝒱₀ (tile d L) none) Set.univ
      (k0_t4_body (F := F) L tblV (Memref.isWhole_whole _) tsV (Memref.isWhole_whole _) outV (Memref.isWhole_whole _)
        sT (Memref.isWhole_whole _) sI (Memref.isWhole_whole _) sB (Memref.isWhole_whole _) s r0 r1 v2 0#32 1#32 k ())
      fun _ => Held d L tb ts 3 (6144 + 64 * (k.val + 1)) 0 := by
  have hk : k.val < 32 := lt_of_lt_of_eq k.isLt trips4
  rw [body4_eq]
  exact trip_spec d L hts 3 (6144 + 64 * k.val) (by omega) (by omega) _ _ (stepsAt4_inb k) (stepsAt4_eq k) _ (rowsAt4_inb k) (rowsAt4_eq k)

end Cert.Proof.Diffuse

end
-- ==== Proof.Tile.lean ====
/-
  One vector subcore's run of the gather kernel. The tile copies the table and its 8192 time steps into its own memory,
  looks up six coefficients for each of them in four loops of 2048 columns, starts the copy of each part of the result as
  soon as its loop is over, and waits for the four copies at the end. `tile_body`: from a share of the table, a share of the
  time steps and the tile's four parts of the result, the run ends with the parts holding the looked-up coefficients.
-/
module

public import proofs.«01_k».proof.Proof.Loops

@[expose] public section

noncomputable section

namespace Cert.Proof.Diffuse

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords)

/-! ## The parts of the result -/

/-- The tile's number: its 8192 time steps are those from `8192 * wid`. -/
def wid : ℕ := 2 * (L 1).val + (L 0).val

theorem wid_lt : wid L < 32 := by
  have h1 : (L 1).val < 16 := (L 1).isLt
  have h0 : (L 0).val < 2 := (L 0).isLt
  unfold wid; omega

/-- 2048 columns of the result, from `lo`. -/
def outCols (lo : ℕ) : Finset S6x262144.Idx := Finset.univ.filter fun i => lo ≤ (i 1).val ∧ (i 1).val < lo + 2048

/-- Part `r` of the tile's columns of the result, and the part of the coefficient scratch that is copied there. -/
abbrev dst (r : Fin 4) : Memref sig .scVector .hbm S6x2048 .f32 :=
  outV.slice (Rect.unit (s := S6x262144) (k0_off30 L (BitVec.ofNat 32 (2048 * r.val))) S6x2048.size (k0_off30_inb L r)) (fun _ => rfl)
theorem src_inb (r : Fin 4) : ∀ a, (![0, 2048 * r.val] : Fin 2 → ℕ) a + S6x2048.size a ≤ S6x8192.size a := by
  intro a
  match a with
  | 0 => exact le_refl _
  | 1 => show 2048 * r.val + 2048 ≤ 8192; omega
abbrev src (r : Fin 4) : Memref sig .scVector .vmem S6x2048 .f32 :=
  sB.slice (Rect.unit (s := S6x8192) ![0, 2048 * r.val] S6x2048.size (src_inb r)) (fun _ => rfl)
/-- The tile's time steps in HBM. -/
abbrev steps : Memref sig .scVector .hbm S8192 .i32 :=
  tsV.slice (Rect.unit (s := S262144) (k0_off1 L) S8192.size (k0_off1_inb L)) (fun _ => rfl)

theorem off1_eq : ∀ L : grid0.Coords, k0_off1 L = ![8192 * wid L] := by decide +kernel
theorem off30_eq : ∀ (L : grid0.Coords) (r : Fin 4), k0_off30 L (BitVec.ofNat 32 (2048 * r.val)) = ![0, 8192 * wid L + 2048 * r.val] := by
  decide +kernel

theorem set_dst (r : Fin 4) : (dst L r).view.set = outCols (8192 * wid L + 2048 * r.val) := by
  refine (View.set_slice_whole _ _).trans ?_
  ext i
  rw [Rect.mem_set_unit, off30_eq]
  unfold outCols
  simp only [Finset.mem_filter, Finset.mem_univ, true_and]
  constructor
  · intro h; exact h 1
  · intro h a
    match a with
    | 0 => exact ⟨Nat.zero_le _, by show (i 0).val < 0 + 6; have : (i 0).val < 6 := (i 0).isLt; omega⟩
    | 1 => exact h

theorem set_src (r : Fin 4) : (src r).view.set = cols r.val := by
  refine (View.set_slice_whole _ _).trans ?_
  ext i
  rw [Rect.mem_set_unit]
  unfold cols
  simp only [Finset.mem_filter, Finset.mem_univ, true_and]
  constructor
  · intro h; have := h 1; exact ⟨this.1, by have h2 : (i 1).val < 2048 * r.val + 2048 := this.2; omega⟩
  · intro h a
    match a with
    | 0 => exact ⟨Nat.zero_le _, by show (i 0).val < 0 + 6; have : (i 0).val < 6 := (i 0).isLt; omega⟩
    | 1 => exact ⟨h.1, by show (i 1).val < 2048 * r.val + 2048; omega⟩

/-- The tile's time steps. -/
def tileSteps (ts : S262144.Idx → Elt F .i32) : S8192.Idx → Elt F .i32 :=
  fun j => ts (Shape.ofLane (d := ![262144]) ⟨8192 * wid L + (j 0).val, by
    have := wid_lt L; have h : (j 0).val < 8192 := (j 0).isLt; show _ < 262144; omega⟩)

theorem steps_lands (ts : S262144.Idx → Elt F .i32) : (steps L).view.read (Elt F) ts = tileSteps L ts := by
  funext j
  refine (View.read_apply _ _).trans ((cast_eq _ _).trans (congrArg ts ?_))
  funext a; apply Fin.ext
  obtain rfl : a = (0 : Fin 1) := Subsingleton.elim (α := Fin 1) _ _
  show k0_off1 L 0 + 1 * (j 0).val = 8192 * wid L + (j 0).val
  rw [off1_eq]; show 8192 * wid L + 1 * (j 0).val = _; omega

theorem inTable_tileSteps {ts : S262144.Idx → Elt F .i32} (h : InTable (F := F) ts) : InTable (F := F) (tileSteps L ts) := fun _ => h _

/-! ## The tile's own cells and buffers -/

abbrev cell8 : GSem nD τ sig := (tile d L, .dma cc0_scratch3.sem)
abbrev cellT : GSem nD τ sig := (tile d L, .dma cc0_scoped0.sem)
abbrev cellI : GSem nD τ sig := (tile d L, .dma cc0_scoped1.sem)

/-- The three semaphores the kernel names are among the tile's own: they are them and the rest. -/
theorem ownSems0_tile :
    (ownSems0 (tile d L) : sProp 𝕄)
      = iprop(semVal (cell8 d L) 0 ∗ semVal (cellT d L) 0 ∗ semVal (cellI d L) 0
          ∗ bigSep ((((ownCells (tile d L)).erase (cell8 d L)).erase (cellT d L)).erase (cellI d L)) fun g => semVal g 0) := by
  have own (s : DmaSem sig) (h : (SemLoc.dma s : SemLoc sig).isScoped .scVector = true) : ((tile d L, SemLoc.dma s) : GSem nD τ sig) ∈ ownCells (tile d L) :=
    mem_ownCells.mpr ⟨rfl, h⟩
  have ne {s s' : DmaSem sig} (h : s ≠ s') : ((tile d L, SemLoc.dma s) : GSem nD τ sig) ≠ (tile d L, SemLoc.dma s') :=
    fun e => h (SemLoc.dma.inj (Prod.mk.inj e).2)
  unfold SparseCore.Cfg.ownSems0
  rw [SparseCore.bigSep_erase' (own cc0_scratch3.sem (by decide)),
    SparseCore.bigSep_erase' (Finset.mem_erase.mpr ⟨ne (by decide), own cc0_scoped0.sem (by decide)⟩),
    SparseCore.bigSep_erase' (Finset.mem_erase.mpr ⟨ne (by decide), Finset.mem_erase.mpr ⟨ne (by decide), own cc0_scoped1.sem (by decide)⟩⟩)]

/-- The three scratch buffers are among the tile's own: they are them, at some contents, and the rest. -/
theorem ownBufs_tile :
    (ownBufs (tile d L) : sProp 𝕄)
      = iprop((∃ f, (sT : Memref sig .scVector .vmem S3072 .f32).view.loc (tile d L) ↦{fullShare} f)
          ∗ (∃ f, (sI : Memref sig .scVector .vmem S8192 .i32).view.loc (tile d L) ↦{fullShare} f)
          ∗ (∃ f, (sB : Memref sig .scVector .vmem S6x8192 .f32).view.loc (tile d L) ↦{fullShare} f)
          ∗ bigSep ((((ownRefs (τ := τ) (tile d L).2).erase ((tile d L).2.devRef cc0_scratch0)).erase
              ((tile d L).2.devRef cc0_scratch1)).erase ((tile d L).2.devRef cc0_scratch2))
              fun b => iprop(∃ f, ((d, b) : Loc nD τ sig) ↦{fullShare} f)) := by
  have ne {b b' : Ref sig .scVector} (h : b ≠ b') : (Proc.scVector (cV L) (jV L)).devRef b ≠ (Proc.scVector (cV L) (jV L)).devRef b' :=
    fun e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne (by decide), Finset.mem_erase.mpr ⟨ne (by decide),
      SparseCore.Cfg.mem_ownRefs_of_owner (p := Proc.scVector (cV L) (jV L)) (b := (Proc.scVector (cV L) (jV L)).devRef cc0_scratch2) rfl⟩⟩)]

/-! ## The run -/

/-- What the copy of part `r` delivers: the part of the result written, and the scratch's part back. -/
abbrev delivery (g : S6x8192.Idx → Elt F .f32) (prior : S6x262144.Idx → Elt F .f32) (r : Fin 4) : sProp 𝕄 :=
  iprop(((dst L r).view.loc (tile d L) ↦[(dst L r).view.set]{fullShare}
      (dst L r).view.writes (Elt F) prior [⟨Rect.whole S6x2048, ReadAs.same.apply ((src r).view.read (Elt F) g)⟩])
    ∗ ((src r).view.loc (tile d L) ↦[(src r).view.set]{fullShare} g))

/-- A fetch leaves the table's copy in the tile's scratch, -/
theorem table_lands (tb f : S3072.Idx → Elt F .f32) :
    (sT : Memref sig .scVector .vmem S3072 .f32).view.write (Elt F) f (ReadAs.same.apply (tblV.view.read (Elt F) tb)) Finset.univ = tb :=
  View.write_whole_univ _ _ _
/-- and the tile's time steps in theirs. -/
theorem steps_land (ts : S262144.Idx → Elt F .i32) (f : S8192.Idx → Elt F .i32) :
    (sI : Memref sig .scVector .vmem S8192 .i32).view.write (Elt F) f (ReadAs.same.apply ((steps L).view.read (Elt F) ts)) Finset.univ
      = tileSteps L ts :=
  (View.write_whole_univ _ _ _).trans (steps_lands L ts)

/-- The coefficient scratch is its four parts. -/
theorem scratch_parts (g : S6x8192.Idx → Elt F .f32) :
    ((sB : Memref sig .scVector .vmem S6x8192 .f32).view.loc (tile d L) ↦{fullShare} g : sProp 𝕄)
      = iprop((sB.view.loc (tile d L) ↦[cols 0]{fullShare} g) ∗ (sB.view.loc (tile d L) ↦[cols 1]{fullShare} g)
          ∗ (sB.view.loc (tile d L) ↦[cols 2]{fullShare} g) ∗ (sB.view.loc (tile d L) ↦[cols 3]{fullShare} g)) := by
  have hU : (Finset.univ : Finset S6x8192.Idx) = (Finset.univ : Finset (Fin 4)).biUnion fun r => cols r.val := by
    ext i
    simp only [Finset.mem_univ, Finset.mem_biUnion, true_and, true_iff, cols, Finset.mem_filter]
    have hi : (i 1).val < 8192 := (i 1).isLt
    exact ⟨⟨(i 1).val / 2048, by omega⟩, by dsimp only; omega⟩
  have hD : ∀ r ∈ (Finset.univ : Finset (Fin 4)), ∀ r' ∈ (Finset.univ : Finset (Fin 4)), r ≠ r' → Disjoint (cols r.val) (cols r'.val) := by
    intro r _ r' _ h
    refine Finset.disjoint_left.mpr fun i hi hi' => h (Fin.ext ?_)
    simp only [cols, Finset.mem_filter, Finset.mem_univ, true_and] at hi hi'
    omega
  have e := pointsTo_biUnion (ℓ := (sB : Memref sig .scVector .vmem S6x8192 .f32).view.loc (tile d L)) (q := fullShare) (f := g)
    (Ix := HIx 1) (Name := ℕ) (U := UU) (Lvl := ℕ) Finset.univ (fun r : Fin 4 => cols r.val) hD
  refine (congrArg (fun S => (sB.view.loc (tile d L) ↦[S]{fullShare} g : sProp 𝕄)) hU).trans (e.trans ?_)
  rw [show (Finset.univ : Finset (Fin 4)) = {0, 1, 2, 3} by decide, SparseCore.bigSep_insert' (by decide), SparseCore.bigSep_insert' (by decide),
    SparseCore.bigSep_insert' (by decide), bigSep_singleton]
  rfl

/-- The tile's parts of the result, at `f`, -/
abbrev parts (f : S6x262144.Idx → Elt F .f32) : sProp 𝕄 :=
  bigSep Finset.univ fun r : Fin 4 => outV.view.loc (tile d L) ↦[outCols (8192 * wid L + 2048 * r.val)]{fullShare} f

/-- are the four targets of its copies. -/
theorem parts_eq (f : S6x262144.Idx → Elt F .f32) :
    (parts d L f : sProp 𝕄)
      = iprop(((dst L 0).view.loc (tile d L) ↦[(dst L 0).view.set]{fullShare} f) ∗ ((dst L 1).view.loc (tile d L) ↦[(dst L 1).view.set]{fullShare} f)
          ∗ ((dst L 2).view.loc (tile d L) ↦[(dst L 2).view.set]{fullShare} f) ∗ ((dst L 3).view.loc (tile d L) ↦[(dst L 3).view.set]{fullShare} f)) := by
  unfold parts
  rw [show (Finset.univ : Finset (Fin 4)) = {0, 1, 2, 3} by decide, SparseCore.bigSep_insert' (by decide), SparseCore.bigSep_insert' (by decide),
    SparseCore.bigSep_insert' (by decide), bigSep_singleton, set_dst, set_dst, set_dst, set_dst]

/-- A part written by its copy holds the looked-up coefficients. -/
theorem part_written (tb : S3072.Idx → Elt F .f32) (ts : S262144.Idx → Elt F .i32) (prior : S6x262144.Idx → Elt F .f32) (r : Fin 4) :
    ((dst L r).view.loc (tile d L) ↦[(dst L r).view.set]{fullShare}
      (dst L r).view.writes (Elt F) prior [⟨Rect.whole S6x2048, ReadAs.same.apply ((src r).view.read (Elt F) (fill tb (tileSteps L ts)))⟩] : sProp 𝕄)
      = ((dst L r).view.loc (tile d L) ↦[(dst L r).view.set]{fullShare} coef tb ts) := by
  refine pointsTo_congr fun i hi => ?_
  obtain ⟨x, -, rfl⟩ := Finset.mem_map.mp hi
  rw [← View.write_univ_eq_writes_whole, View.write_emb_of_mem _ _ (Finset.mem_univ _)]
  refine (cast_eq _ _).trans ?_
  show (src r).view.read (Elt F) (fill tb (tileSteps L ts)) x = _
  refine (View.read_apply _ _).trans ((cast_eq _ _).trans ?_)
  have e0 : (((dst L r).view.emb x) 0).val = (((src r).view.emb x) 0).val := by
    show k0_off30 L (BitVec.ofNat 32 (2048 * r.val)) 0 + 1 * (x 0).val = 0 + 1 * (x 0).val
    rw [off30_eq]; rfl
  have e1 : (((dst L r).view.emb x) 1).val = 8192 * wid L + (((src r).view.emb x) 1).val := by
    show k0_off30 L (BitVec.ofNat 32 (2048 * r.val)) 1 + 1 * (x 1).val = 8192 * wid L + (2048 * r.val + 1 * (x 1).val)
    rw [off30_eq]; show 8192 * wid L + 2048 * r.val + 1 * (x 1).val = _; omega
  unfold fill coef tileSteps
  rw [e0]
  refine congrArg (fun v => look tb v (((src r).view.emb x) 0).val) (congrArg ts ?_)
  funext a; apply Fin.ext
  obtain rfl : a = (0 : Fin 1) := Subsingleton.elim (α := Fin 1) _ _
  exact e1.symm

/-- A part of the scratch filled is the source of its copy. -/
theorem part_filled {g f : S6x8192.Idx → Elt F .f32} (r : Fin 4) {n : ℕ} (hn : n = 2048 * r.val + 2048)
    (hf : Filled g f (2048 * r.val) n 0) :
    (sB.view.loc (tile d L) ↦[cols r.val]{fullShare} f : sProp 𝕄) = ((src r).view.loc (tile d L) ↦[(src r).view.set]{fullShare} g) := by
  rw [set_src]
  refine pointsTo_congr fun i hi => ?_
  simp only [cols, Finset.mem_filter, Finset.mem_univ, true_and] at hi
  exact hf i hi.1 (.inl (by omega))

/-- A part of the scratch not yet filled. -/
theorem filled_none (g f : S6x8192.Idx → Elt F .f32) (n : ℕ) : Filled g f n n 0 := fun i h1 h2 => by omega

theorem src_part (r : Fin 4) (g : S6x8192.Idx → Elt F .f32) :
    ((src r).view.loc (tile d L) ↦[(src r).view.set]{fullShare} g : sProp 𝕄) = (sB.view.loc (tile d L) ↦[cols r.val]{fullShare} g) := by
  rw [set_src]

variable [FloatOps F] [∀ e, Nonempty (Elt F e)]

set_option maxRecDepth 100000 in
set_option maxHeartbeats 4000000 in
theorem tile_body (tb : S3072.Idx → Elt F .f32) (ts : S262144.Idx → Elt F .i32) (hts : InTable (F := F) ts) (prior : S6x262144.Idx → Elt F .f32)
    (q q' : PosShare TreeShare)
    (hF : (K (F := F)).Facts) (O : CellTallies nD τ sig (HIx 1)) (W : Waits sig (HIx 1)) (hO : ∀ g, O g none = 0) :
    iprop(levAts (K (F := F)).L (K (F := F)).lev ∗ emp
        ∗ ((tblV.view.loc (tile d L) ↦{q} tb) ∗ (tsV.view.loc (tile d L) ↦{q'} ts) ∗ parts d L prior)
        ∗ scopedBufs (tile d L) ∗ scopedSems0 (tile d L) ∗ owes (tile d L) O W)
      ⊢ wp frame (wpE (defs₀ (F := F)) 𝒱₀ (tile d L) none) Set.univ
          (cc0_gather_kernel L tblV (Memref.isWhole_whole _) tsV (Memref.isWhole_whole _) outV (Memref.isWhole_whole _)
            sT (Memref.isWhole_whole _) sI (Memref.isWhole_whole _) sB (Memref.isWhole_whole _) cc0_scratch3 cc0_scoped0 cc0_scoped1)
          fun _ => iprop(((tblV.view.loc (tile d L) ↦{q} tb) ∗ (tsV.view.loc (tile d L) ↦{q'} ts) ∗ parts d L (coef tb ts))
            ∗ scopedBufs (tile d L) ∗ scopedSems0 (tile d L) ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_tile, ownBufs_tile]
  rw [cc0_gather_kernel_eq_skeleton]
  unfold cc0_gather_kernel_skel
  rw [k0_part21_eq_skeleton, k0_part22_eq_skeleton]
  unfold k0_part21_skel k0_part22_skel
  rw [parts_eq, parts_eq]
  have hts' := inTable_tileSteps (F := F) L hts
  iintro ⟨#Hlv, -, ⟨Htb, Hts, HD0, HD1, HD2, HD3⟩, ⟨⟨%f0, HT⟩, ⟨%f1, HI⟩, ⟨%f2, HS⟩, Hbufs⟩, ⟨H8, HcT, HcI, Hcells⟩, HO⟩
  ihave Hmw := ((K (F := F)).mayWaits_none (thr := tile d L) hO) $$ Hlv
  ihave HS := (Entails.of_eq (scratch_parts (F := F) d L f2)) $$ HS
  icases HS with ⟨HS0, HS1, HS2, HS3⟩
  imod (Transfers.batch_alloc' (Lvl := ℕ) EC (tile d L) (none : HIx 1) ((dst L 0).view.amount (SemLoc.dma (sig := sig) cc0_scratch3.sem))
    (delivery d L (fill tb (tileSteps L ts)) prior) (sm := .dma cc0_scratch3.sem) (E := Set.univ)) $$ H8 with HB
  sl_exec
  ihave HT := (Entails.of_eq (congrArg (fun f => (sT.view.loc (tile d L) ↦{fullShare} f : sProp 𝕄)) (show sT.view.write (Elt F) f0 (tile_body.sl.dma0 tb) Finset.univ = tb from table_lands (F := F) tb f0))) $$ HT
  ihave HI := (Entails.of_eq (congrArg (fun f => (sI.view.loc (tile d L) ↦{fullShare} f : sProp 𝕄)) (show sI.view.write (Elt F) f1 (tile_body.sl.dma0_1 L ts) Finset.univ = tileSteps L ts from steps_land (F := F) L ts f1))) $$ HI
  repeat rw [bind_assoc]
  sl_for (fun k _ => Held d L tb (tileSteps L ts) 0 (0 + 64 * k) 0) $$ [HT HI HS0]
  case region => intro k _; exact body1_spec d L hts' _ _ _ k
  · unfold Held
    isplitl [HT]; · iexact HT
    isplitl [HI]; · iexact HI
    iexists f2; isplitr
    · ipureintro; exact filled_none _ _ _
    · iexact HS0
  iintro %_ Hd
  unfold Held
  icases Hd with ⟨HT, HI, %g0, %hg0, HS0⟩
  ihave HS0 := (Entails.of_eq (show (sB.view.loc (tile d L) ↦[cols 0]{fullShare} g0 : sProp 𝕄)
      = ((src 0).view.loc (tile d L) ↦[(src 0).view.set]{fullShare} fill tb (tileSteps L ts)) from part_filled (F := F) d L 0 (congrArg (fun t => 0 + 64 * t) trips1) hg0)) $$ HS0
  sl_exec
  repeat rw [bind_assoc]
  sl_for (fun k _ => Held d L tb (tileSteps L ts) 1 (2048 + 64 * k) 0) $$ [HT HI HS1]
  case region => intro k _; exact body2_spec d L hts' _ _ _ k
  · unfold Held
    isplitl [HT]; · iexact HT
    isplitl [HI]; · iexact HI
    iexists f2; isplitr
    · ipureintro; exact filled_none _ _ _
    · iexact HS1
  iintro %_ Hd
  unfold Held
  icases Hd with ⟨HT, HI, %g1, %hg1, HS1⟩
  ihave HS1 := (Entails.of_eq (show (sB.view.loc (tile d L) ↦[cols 1]{fullShare} g1 : sProp 𝕄)
      = ((src 1).view.loc (tile d L) ↦[(src 1).view.set]{fullShare} fill tb (tileSteps L ts)) from part_filled (F := F) d L 1 (congrArg (fun t => 2048 + 64 * t) trips2) hg1)) $$ HS1
  sl_exec
  repeat rw [bind_assoc]
  sl_for (fun k _ => Held d L tb (tileSteps L ts) 2 (4096 + 64 * k) 0) $$ [HT HI HS2]
  case region => intro k _; exact body3_spec d L hts' _ _ _ _ k
  · unfold Held
    isplitl [HT]; · iexact HT
    isplitl [HI]; · iexact HI
    iexists f2; isplitr
    · ipureintro; exact filled_none _ _ _
    · iexact HS2
  iintro %_ Hd
  unfold Held
  icases Hd with ⟨HT, HI, %g2, %hg2, HS2⟩
  ihave HS2 := (Entails.of_eq (show (sB.view.loc (tile d L) ↦[cols 2]{fullShare} g2 : sProp 𝕄)
      = ((src 2).view.loc (tile d L) ↦[(src 2).view.set]{fullShare} fill tb (tileSteps L ts)) from part_filled (F := F) d L 2 (congrArg (fun t => 4096 + 64 * t) trips3) hg2)) $$ HS2
  sl_exec
  repeat rw [bind_assoc]
  sl_for (fun k _ => Held d L tb (tileSteps L ts) 3 (6144 + 64 * k) 0) $$ [HT HI HS3]
  case region => intro k _; exact body4_spec d L hts' _ _ _ _ k
  · unfold Held
    isplitl [HT]; · iexact HT
    isplitl [HI]; · iexact HI
    iexists f2; isplitr
    · ipureintro; exact filled_none _ _ _
    · iexact HS3
  iintro %_ Hd
  unfold Held
  icases Hd with ⟨HT, HI, %g3, %hg3, HS3⟩
  ihave HS3 := (Entails.of_eq (show (sB.view.loc (tile d L) ↦[cols 3]{fullShare} g3 : sProp 𝕄)
      = ((src 3).view.loc (tile d L) ↦[(src 3).view.set]{fullShare} fill tb (tileSteps L ts)) from part_filled (F := F) d L 3 (congrArg (fun t => 6144 + 64 * t) trips4) hg3)) $$ HS3
  sl_exec
  sl_step
  isplitl [Htb Hts HB_dst0 HB_dst1 HB_dst2 HB_dst3]
  · isplitl [Htb]; · iexact Htb
    isplitl [Hts]; · iexact Hts
    isplitl [HB_dst0]; · iapply (Entails.of_eq (part_written (F := F) d L tb ts prior 0)); iexact HB_dst0
    isplitl [HB_dst1]; · iapply (Entails.of_eq (part_written (F := F) d L tb ts prior 1)); iexact HB_dst1
    isplitl [HB_dst2]; · iapply (Entails.of_eq (part_written (F := F) d L tb ts prior 2)); iexact HB_dst2
    iapply (Entails.of_eq (part_written (F := F) d L tb ts prior 3)); iexact HB_dst3
  isplitl [HT HI HB_src0 HB_src1 HB_src2 HB_src3 Hbufs]
  · isplitl [HT]; · iexists _; iexact HT
    isplitl [HI]; · iexists _; iexact HI
    isplitl [HB_src0 HB_src1 HB_src2 HB_src3]
    · iexists fill tb (tileSteps L ts)
      iapply (Entails.of_eq (scratch_parts (F := F) d L (fill tb (tileSteps L ts))).symm)
      isplitl [HB_src0]; · iapply (Entails.of_eq (src_part (F := F) d L 0 (fill tb (tileSteps L ts)))); iexact HB_src0
      isplitl [HB_src1]; · iapply (Entails.of_eq (src_part (F := F) d L 1 (fill tb (tileSteps L ts)))); iexact HB_src1
      isplitl [HB_src2]; · iapply (Entails.of_eq (src_part (F := F) d L 2 (fill tb (tileSteps L ts)))); iexact HB_src2
      iapply (Entails.of_eq (src_part (F := F) d L 3 (fill tb (tileSteps L ts)))); iexact HB_src3
    · iexact Hbufs
  isplitl [HB HcT HcI Hcells]
  · isplitl [HB]; · iexact HB
    isplitl [HcT]; · iexact HcT
    isplitl [HcI]; · iexact HcI
    iexact Hcells
  iexists _; isplitr
  rotate_left
  · iexact HO
  ipureintro
  intro p hp
  simp only [Finset.mem_insert] at hp
  rcases hp with h | h | h | h | h | h | h
  all_goals first
    | exact .inl h
    | exact .inr (h ▸ rfl)

end Cert.Proof.Diffuse

end
-- ==== Proof.Region.lean ====
/-
  The TensorCore kernel's pipelined region. At each of its sixteen points the body reads the point's block of the
  transposed `xt`, the point's block of the coefficients and the selection matrix, and stores one block of the result;
  the blocks tile the result, which so ends at `tcOut`, a function of the three arrays.
-/
module

public import proofs.«01_k».proof.Proof.Common
public import Idealize.ShloMosaic.Lib.Pipeline.Regions
public import Idealize.ShloMosaic.Lib.Pipeline.RegionsLoop
public import Idealize.ShloMosaic.Lib.Pipeline.FrameBody
public import Idealize.ShloMosaic.Lib.Pipeline.Value
public import Idealize.ShloMosaic.Lib.Pipeline.Frame

@[expose] public section

noncomputable section

namespace Cert.Proof.Diffuse

open Cert.KernelIdeal Cert.KernelIdeal.Gen

open Idealize.ShloMosaic
open Idealize.ShloMosaic.SparseCore (S V T)
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body's run -/

theorem zeros : (![0, 0] : Fin 2 → ℕ) = fun _ => 0 := by funext a; fin_cases a <;> rfl

/-- A load through the whole rectangle reads the memref's contents. -/
theorem readAt_whole {s : Shape} {sp : Space} {e : EltTy} (M : Memref sig .tc sp s e) {off : Fin s.rank → ℕ} (ho : off = fun _ => 0)
    (inb : ∀ a, off a + s.size a ≤ s.size a) (f : M.view.ty.Contents (Elt F)) (x : s.Idx → Elt F e)
    (h : M.view.read (Elt F) f = x) : M.view.readAt (Elt F) (Rect.unit (s := s) off s.size inb).toLoadRect f = x := by
  subst ho h
  funext i
  exact congrArg (M.view.read (Elt F) f) (Rect.emb_whole_apply (s := s) i)

/-- A store through the whole rectangle leaves its payload. -/
theorem read_store_whole {s : Shape} {sp : Space} {e : EltTy} (M : Memref sig .tc sp s e) {off : Fin s.rank → ℕ} (ho : off = fun _ => 0)
    (inb : ∀ a, off a + s.size a ≤ s.size a) (f : M.view.ty.Contents (Elt F)) (x : s.Idx → Elt F e) :
    M.view.read (Elt F) ((M.access (Rect.unit (s := s) off s.size inb)).write (Elt F) f x Finset.univ) = x := by
  subst ho
  funext i
  have h := congrFun (View.read_write_univ (v := M.access (Rect.unit (s := s) (fun _ => 0) s.size inb)) (Val := Elt F) f x) i
  refine Eq.trans ?_ h
  exact (congrArg (M.view.read (Elt F) _) (Rect.emb_whole_apply (s := s) i)).symm

set_option maxRecDepth 100000 in
/-- One grid point's run on the staging buffers: the fourth buffer ends at the body's value of the other three. -/
theorem tc_run (d : Dev nD) (i : grid1.Coords)
    (M0 : Memref sig .tc .vmem S16x16384 .f32) (h0 : M0.IsWhole) (M1 : Memref sig .tc .vmem S6x16384 .f32) (h1 : M1.IsWhole)
    (M2 : Memref sig .tc .vmem S512x48 .f32) (h2 : M2.IsWhole) (M3 : Memref sig .tc .vmem S256x16384 .f32) (h3 : M3.IsWhole)
    (x : S16x16384.Idx → Elt F .f32) (cf : S6x16384.Idx → Elt F .f32) (l : S512x48.Idx → Elt F .f32) (o : S256x16384.Idx → Elt F .f32)
    (E : Set ℕ) (Q : PUnit → sProp 𝕄) :
    iprop(owns (d.tc : Thread nD τ) M0 fullShare x ∗ owns (d.tc : Thread nD τ) M1 fullShare cf
        ∗ owns (d.tc : Thread nD τ) M2 fullShare l ∗ owns (d.tc : Thread nD τ) M3 fullShare o
        ∗ (iprop(owns (d.tc : Thread nD τ) M0 fullShare x ∗ owns (d.tc : Thread nD τ) M1 fullShare cf
        ∗ owns (d.tc : Thread nD τ) M2 fullShare l ∗ owns (d.tc : Thread nD τ) M3 fullShare (k1_pay1 x cf l)) -∗ Q ⟨⟩))
      ⊢ wp frame (wpE (defs₀ (F := F)) 𝒱₀ (d.tc : Thread nD τ) none) E (cc1__tc_body i M0 h0 M1 h1 M2 h2 M3 h3) Q := by
  rw [cc1__tc_body_eq_skeleton]
  unfold owns
  rw [h0.set_eq_univ, h1.set_eq_univ, h2.set_eq_univ, h3.set_eq_univ]
  iintro ⟨⟨%f0, %e0, H0⟩, ⟨%f1, %e1, H1⟩, ⟨%f2, %e2, H2⟩, ⟨%f3, -, H3⟩, Hk⟩
  unfold cc1__tc_body_skel
  sl_exec!
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  iexists _; isplitr; swap; · iexact H3
  ipureintro
  unfold tc_run.sl.H3_1
  refine (View.read_writes_eq_canon _ _ _ fun y => ⟨_, List.mem_cons_self, ?_⟩).trans ?_
  · show y ∈ (Rect.unit (s := S256x16384) ![0, 0] S256x16384.size inb_S256x16384_S256x16384_0_0).set
    exact View.mem_set_unit_zero (S := S256x16384) zeros inb_S256x16384_S256x16384_0_0 y
  refine (View.canon_unit_zero (S := S256x16384) zeros inb_S256x16384_S256x16384_0_0 _).trans ?_
  have r0 := readAt_whole M0 zeros inb_S16x16384_S16x16384_0_0 f0 x e0
  have r1 := readAt_whole M1 zeros inb_S6x16384_S6x16384_0_0 f1 cf e1
  have r2 := readAt_whole M2 zeros inb_S512x48_S512x48_0_0 f2 l e2
  exact congr (congr (congrArg k1_pay1 r0) r1) r2

/-! ## The blocks, and the region's value -/

/-- Block `k` of an array of 262144 columns: columns `16384 k` to `16384 k + 16383`. -/
def blkOf {α : Type} {r : ℕ} (x : (⟨2, ![r, 262144]⟩ : Shape).Idx → α) (k : ℕ) (hk : k < 16) : (⟨2, ![r, 16384]⟩ : Shape).Idx → α :=
  fun j => x (Shape.pair (d := ![r, 262144]) (j 0) ⟨16384 * k + (j 1).val, by
    have h : (j 1).val < 16384 := (j 1).isLt
    show 16384 * k + (j 1).val < 262144; omega⟩)

/-- The result the region leaves: at column `n`, what the body computes there from block `n / 16384` of the two arrays and
    the selection matrix. -/
def tcOut (x : S16x262144.Idx → Elt F .f32) (cf : S6x262144.Idx → Elt F .f32) (l : S512x48.Idx → Elt F .f32) : S256x262144.Idx → Elt F .f32 :=
  fun i => k1_pay1
    (blkOf x ((i 1).val / 16384) (by have h : (i 1).val < 262144 := (i 1).isLt; omega))
    (blkOf cf ((i 1).val / 16384) (by have h : (i 1).val < 262144 := (i 1).isLt; omega)) l
    (Shape.pair (d := ![256, 16384]) (i 0) ⟨(i 1).val % 16384, Nat.mod_lt _ (by decide)⟩)

theorem tN (t : Fin cfg1.N) : t.val < 16 := t.isLt.trans_eq N_1

/-- At point `t` the three moving windows are on block `t` of the columns. -/
theorem idx0 : ∀ t : Fin grid1.N, win1_0.index t = ![0, t.val] := by decide +kernel
theorem idx1 : ∀ t : Fin grid1.N, win1_1.index t = ![0, t.val] := by decide +kernel
theorem idx2 : ∀ t : Fin grid1.N, win1_2.index t = ![0, 0] := by decide +kernel
theorem idx3 : ∀ t : Fin grid1.N, win1_3.index t = ![0, t.val] := by decide +kernel

/-- What the fetches read: block `t` of the transposed `xt`, -/
theorem read_blk0 (t : Fin cfg1.N) (x : S16x262144.Idx → Elt F .f32) :
    ((cfg1.win 0).blk t).view.read (Elt F) x = blkOf x t.val (tN t) := by
  funext j
  refine congrArg x (funext fun a => Fin.ext ?_)
  have e := idx0 t
  match a with
  | ⟨0, _⟩ => show win1_0.index t 0 * 16 + 1 * (j 0).val = (j 0).val; rw [e]; show 0 * 16 + 1 * (j 0).val = _; omega
  | ⟨1, _⟩ => show win1_0.index t 1 * 16384 + 1 * (j 1).val = 16384 * t.val + (j 1).val; rw [e]; show t.val * 16384 + 1 * (j 1).val = _; omega

/-- block `t` of the coefficients, -/
theorem read_blk1 (t : Fin cfg1.N) (x : S6x262144.Idx → Elt F .f32) :
    ((cfg1.win 1).blk t).view.read (Elt F) x = blkOf x t.val (tN t) := by
  funext j
  refine congrArg x (funext fun a => Fin.ext ?_)
  have e := idx1 t
  match a with
  | ⟨0, _⟩ => show win1_1.index t 0 * 6 + 1 * (j 0).val = (j 0).val; rw [e]; show 0 * 6 + 1 * (j 0).val = _; omega
  | ⟨1, _⟩ => show win1_1.index t 1 * 16384 + 1 * (j 1).val = 16384 * t.val + (j 1).val; rw [e]; show t.val * 16384 + 1 * (j 1).val = _; omega

/-- and the whole selection matrix. -/
theorem read_blk2 (t : Fin cfg1.N) (l : S512x48.Idx → Elt F .f32) :
    ((cfg1.win 2).blk t).view.read (Elt F) l = l := by
  funext j
  refine congrArg l (funext fun a => Fin.ext ?_)
  have e := idx2 t
  match a with
  | ⟨0, _⟩ => show win1_2.index t 0 * 512 + 1 * (j 0).val = (j 0).val; rw [e]; show 0 * 512 + 1 * (j 0).val = _; omega
  | ⟨1, _⟩ => show win1_2.index t 1 * 48 + 1 * (j 1).val = (j 1).val; rw [e]; show 0 * 48 + 1 * (j 1).val = _; omega

/-- Block `t` of the region's value is what the body computes from the blocks it reads at `t`. -/
theorem read_blk3 (t : Fin cfg1.N) (x : S16x262144.Idx → Elt F .f32) (cf : S6x262144.Idx → Elt F .f32) (l : S512x48.Idx → Elt F .f32) :
    ((cfg1.win 3).blk t).view.read (Elt F) (tcOut x cf l) = k1_pay1 (blkOf x t.val (tN t)) (blkOf cf t.val (tN t)) l := by
  funext j
  have hj : (j 1).val < 16384 := (j 1).isLt
  have e := idx3 t
  have e0 : ((((cfg1.win 3).blk t).view.emb j) 0).val = (j 0).val := by
    show win1_3.index t 0 * 256 + 1 * (j 0).val = (j 0).val; rw [e]; show 0 * 256 + 1 * (j 0).val = _; omega
  have e1 : ((((cfg1.win 3).blk t).view.emb j) 1).val = 16384 * t.val + (j 1).val := by
    show win1_3.index t 1 * 16384 + 1 * (j 1).val = 16384 * t.val + (j 1).val; rw [e]; show t.val * 16384 + 1 * (j 1).val = _; omega
  have key : ∀ (i : S256x262144.Idx), (i 0).val = (j 0).val → (i 1).val = 16384 * t.val + (j 1).val →
      tcOut x cf l i = k1_pay1 (blkOf x t.val (tN t)) (blkOf cf t.val (tN t)) l j := by
    intro i h0 h1
    unfold tcOut
    have hq : (i 1).val / 16384 = t.val := by omega
    have hr : (i 1).val % 16384 = (j 1).val := by omega
    have hp : Shape.pair (d := ![256, 16384]) (i 0) ⟨(i 1).val % 16384, Nat.mod_lt _ (by decide)⟩ = j := by
      funext a
      match a with
      | ⟨0, _⟩ => exact Fin.ext h0
      | ⟨1, _⟩ => exact Fin.ext hr
    rw [hp]
    congr 1 <;> congr 1
  exact key _ e0 e1

/-- The blocks of the result tile it. -/
theorem cover3 (i : S256x262144.Idx) : ∃ t : Fin cfg1.N, (cfg1.win 3).flush t = true ∧ i ∈ ((cfg1.win 3).blk t).view.set := by
  have h1 : (i 1).val < 262144 := (i 1).isLt
  have h0 : (i 0).val < 256 := (i 0).isLt
  have ht : (i 1).val / 16384 < cfg1.N := by rw [show cfg1.N = 16 from N_1]; omega
  refine ⟨⟨(i 1).val / 16384, ht⟩, flush1_3 _, ?_⟩
  rw [View.set, Finset.mem_map]
  refine ⟨Shape.pair (d := ![256, 16384]) (i 0) ⟨(i 1).val % 16384, Nat.mod_lt _ (by decide)⟩, Finset.mem_univ _, ?_⟩
  have e := idx3 ⟨(i 1).val / 16384, ht⟩
  funext a
  apply Fin.ext
  match a with
  | ⟨0, _⟩ => show win1_3.index _ 0 * 256 + 1 * (i 0).val = (i 0).val; rw [e]; show 0 * 256 + 1 * (i 0).val = _; omega
  | ⟨1, _⟩ =>
    show win1_3.index _ 1 * 16384 + 1 * ((i 1).val % 16384) = (i 1).val; rw [e]
    show (i 1).val / 16384 * 16384 + 1 * ((i 1).val % 16384) = _; omega

/-! ## The region's proof data -/

variable (V : (c : Dev nD) → (b : Ref sig .tc) → Buf (Elt F) ((c.tc : Thread nD τ).loc b))

/-- From the buffers at `V`: each fetched block is left as found, the fourth buffer at the body's value of the three. The
    waits recorded before the region are of the launch's levels up to `8`. -/
def dat (c : Dev nD) : Dat τ (Elt F) (HIx 1) ℕ UU ℕ cfg1 c where
  A w := V c (Pipeline.arrRef spec1 w)
  after w t := match w with
    | ⟨0, _⟩ => ((cfg1.win 0).blk t).view.read (Elt F) (V c main_v25)
    | ⟨1, _⟩ => ((cfg1.win 1).blk t).view.read (Elt F) (V c main_v24)
    | ⟨2, _⟩ => ((cfg1.win 2).blk t).view.read (Elt F) (V c main_cst)
    | ⟨3, _⟩ => k1_pay1 (((cfg1.win 0).blk t).view.read (Elt F) (V c main_v25)) (((cfg1.win 1).blk t).view.read (Elt F) (V c main_v24))
        (((cfg1.win 2).blk t).view.read (Elt F) (V c main_cst))
  Φ _ := BI.emp
  q _ := fullShare
  owed _ := 0
  recorded _ := {p | (K (F := F)).lev ((c.tc : Thread nD τ), p.1) p.2 ≤ 8}

theorem before0 (c : Dev nD) (t : Fin cfg1.N) (d) : (dat V c).before 0 t d = ((cfg1.win 0).blk t).view.read (Elt F) (V c main_v25) :=
  ((dat V c).before_in_eq_fetched 0 rfl (fun _ => rfl) (fun _ _ _ => rfl) (fun t => rfl) t d).trans rfl
theorem before1 (c : Dev nD) (t : Fin cfg1.N) (d) : (dat V c).before 1 t d = ((cfg1.win 1).blk t).view.read (Elt F) (V c main_v24) :=
  ((dat V c).before_in_eq_fetched 1 rfl (fun _ => rfl) (fun _ _ _ => rfl) (fun t => rfl) t d).trans rfl
theorem before2 (c : Dev nD) (t : Fin cfg1.N) (d) : (dat V c).before 2 t d = ((cfg1.win 2).blk t).view.read (Elt F) (V c main_cst) :=
  ((dat V c).before_in_eq_fetched 2 rfl (fun _ => rfl) (fun _ _ _ => rfl) (fun t => rfl) t d).trans rfl

/-- What the pipeline calls at a point is the body at the point's coordinates on the current buffers. -/
theorem body_eq (t : Fin cfg1.N) : defs₀ (F := F) .tc cfg1.body (cfg1.bodyArgs t (cfg1.slots t)) = bodyAt1 t := rfl

theorem body_obligation (c : Dev nD) : BodyObligation (dat V c) (defs₀ (F := F)) 𝒱₀ none Set.univ := fun t => by
  rw [bigSep_W1, bigSep_W1, body_eq]
  rw [show (dat V c).Φ t.castSucc = BI.emp from rfl, show (dat V c).Φ t.succ = BI.emp from rfl,
    show (dat V c).owesAt none t.succ = (dat V c).owesAt none t.castSucc from rfl]
  iintro ⟨HΦ, Howes, ⟨%d0, H0⟩, ⟨%d1, H1⟩, ⟨%d2, H2⟩, ⟨%d3, H3⟩⟩
  rw [before0, before1, before2]
  iapply (tc_run c _ _ _ _ _ _ _ _ _ _ _ _ _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The result array after the region is the region's value. -/
theorem arr_out (c : Dev nD) : (dat V c).arrAt 3 cfg1.N = tcOut (V c main_v25) (V c main_v24) (V c main_cst) :=
  (dat V c).arrAt_eq_of_cover 3 _ (fun t _ => by
    refine Eq.trans ?_ (read_blk3 t _ _ _).symm
    show (dat V c).after 3 t = _
    rw [← read_blk0 t (V c main_v25), ← read_blk1 t (V c main_v24)]
    refine Eq.trans (b := k1_pay1 _ _ (((cfg1.win 2).blk t).view.read (Elt F) (V c main_cst))) rfl ?_
    rw [read_blk2 t (V c main_cst)]) cover3

/-! ## The region as a segment of @main -/

variable (Vp : (c : Dev nD) → (b : Ref sig .tc) → Buf (Elt F) ((c.tc : Thread nD τ).loc b))
variable (adm : (p : Fin 1) → (pcfgs (F := F) p).Adm)

/-- The region's proof data, for each region there is. -/
def pdats (p : Fin 1) (c : Dev nD) : Dat τ (Elt F) (HIx 1) ℕ UU ℕ (Pipeline.pin (pcfgs (F := F)) adm p) c := dat V c

set_option backward.isDefEq.respectTransparency.types false in
/-- The region, entered with every buffer at `V` and the waits so far of levels up to `8`, left with every buffer at `Vp`:
    `V` with the result array at the region's value. -/
def reg (hVp_out : ∀ c, Vp c main_v26 = tcOut (V c main_v25) (V c main_v24) (V c main_cst))
    (hVp_ne : ∀ c (b : Ref sig .tc), b ≠ main_v26 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜(K (F := F)).WBelow (c.tc : Thread nD τ) W 8⌝ ∗ owes (c.tc : Thread nD τ) (0 : CellTallies nD τ sig (HIx 1)) W)
  post c := iprop(unscopedBufs c (Vp c) ∗ ∃ W, ⌜(K (F := F)).WBelow (c.tc : Thread nD τ) W 8⌝ ∗ owes (c.tc : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V adm 0 c).Φ 0 = BI.emp from rfl]
    iintro -; iempintro
  hout c := by
    rw [Pipeline.ownSems0_none, show (pdats V adm 0 c).Φ (Fin.last _) = BI.emp from rfl]
    rw [show Pipeline.pin (pcfgs (F := F)) adm 0 = cfg1 from rfl, scopedRest1_eq]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v25 (by decide)).symm
        · exact ((pdats V adm 0 c).arrAt_in 1 rfl _).trans (hVp_ne c main_v24 (by decide)).symm
        · exact ((pdats V adm 0 c).arrAt_in 2 rfl _).trans (hVp_ne c main_cst (by decide)).symm
        · exact (arr_out V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, n, rfl⟩ := h
        exact Nat.zero_le _
    iexact HO

end Cert.Proof.Diffuse

end
-- ==== Proof.HostOps.lean ====
/-
  The operations @main runs around the two kernels, and the buffers' contents after each stretch: `V₀` at launch, `V₁` when the
  gather kernel starts, `V₂` after it, `V₃` when the pipelined region starts, `V₄` after it, `V₅` at the end. The buffers the
  kernels read are named in `V₁` and `V₃`, and no argument is written by anything.
-/
module

public import proofs.«01_k».proof.Proof.Region

@[expose] public section

noncomputable section

namespace Cert.Proof.Diffuse

open Cert.KernelIdeal Cert.KernelIdeal.Gen

open Idealize.ShloMosaic Idealize.ShloMosaic.TcCoe
open Idealize.SL Idealize.SL.RA Idealize.SL.BI Idealize.SL.Sem

variable {F : FTy → Type} [FloatOps F]

/-- The operations before the gather kernel: the selection matrix, and the six coefficient tables laid side by side, padded
    to 512 columns and flattened. -/
abbrev preOps : List (HloOp τ sig (Elt F)) :=
  [ StableHlo.nullary main_cst (fun i => FloatOps.ofBits .f32 (lit0 (S512x48.rowMajor i))),
    StableHlo.unary main_arg2 main_v0 ((extractStridedSlice S500x1x1 ![0, 0, 0] · slices_S500x16x16_S500x1x1_0_0_0) : (⟨S500x16x16, .f32⟩ : BufTy).Contents (Elt F) → (⟨S500x1x1, .f32⟩ : BufTy).Contents (Elt F)),
    StableHlo.reshape main_v0 main_v1 (rfl : (.f32 : EltTy) = .f32) shapeCasts_S500x1x1_S500,
    StableHlo.unary main_arg2 main_v2 ((extractStridedSlice S500x1x1 ![0, 0, 1] · slices_S500x16x16_S500x1x1_0_0_1) : (⟨S500x16x16, .f32⟩ : BufTy).Contents (Elt F) → (⟨S500x1x1, .f32⟩ : BufTy).Contents (Elt F)),
    StableHlo.reshape main_v2 main_v3 (rfl : (.f32 : EltTy) = .f32) shapeCasts_S500x1x1_S500,
    StableHlo.unary main_arg4 main_v4 ((extractStridedSlice S500x1x1 ![0, 0, 0] · slices_S500x16x16_S500x1x1_0_0_0) : (⟨S500x16x16, .f32⟩ : BufTy).Contents (Elt F) → (⟨S500x1x1, .f32⟩ : BufTy).Contents (Elt F)),
    StableHlo.reshape main_v4 main_v5 (rfl : (.f32 : EltTy) = .f32) shapeCasts_S500x1x1_S500,
    StableHlo.unary main_arg4 main_v6 ((extractStridedSlice S500x1x1 ![0, 0, 1] · slices_S500x16x16_S500x1x1_0_0_1) : (⟨S500x16x16, .f32⟩ : BufTy).Contents (Elt F) → (⟨S500x1x1, .f32⟩ : BufTy).Contents (Elt F)),
    StableHlo.reshape main_v6 main_v7 (rfl : (.f32 : EltTy) = .f32) shapeCasts_S500x1x1_S500,
    StableHlo.unary main_arg3 main_v8 ((extractStridedSlice S500x1x1 ![0, 0, 0] · slices_S500x16x16_S500x1x1_0_0_0) : (⟨S500x16x16, .f32⟩ : BufTy).Contents (Elt F) → (⟨S500x1x1, .f32⟩ : BufTy).Contents (Elt F)),
    StableHlo.reshape main_v8 main_v9 (rfl : (.f32 : EltTy) = .f32) shapeCasts_S500x1x1_S500,
    StableHlo.unary main_arg3 main_v10 ((extractStridedSlice S500x1x1 ![0, 0, 1] · slices_S500x16x16_S500x1x1_0_0_1) : (⟨S500x16x16, .f32⟩ : BufTy).Contents (Elt F) → (⟨S500x1x1, .f32⟩ : BufTy).Contents (Elt F)),
    StableHlo.reshape main_v10 main_v11 (rfl : (.f32 : EltTy) = .f32) shapeCasts_S500x1x1_S500,
    StableHlo.unary main_v1 main_v12 (broadcastInDim S500x1 ![0] bcast_S500_S500x1_0 : (⟨S500, .f32⟩ : BufTy).Contents (Elt F) → (⟨S500x1, .f32⟩ : BufTy).Contents (Elt F)),
    StableHlo.unary main_v3 main_v13 (broadcastInDim S500x1 ![0] bcast_S500_S500x1_0 : (⟨S500, .f32⟩ : BufTy).Contents (Elt F) → (⟨S500x1, .f32⟩ : BufTy).Contents (Elt F)),
    StableHlo.unary main_v5 main_v14 (broadcastInDim S500x1 ![0] bcast_S500_S500x1_0 : (⟨S500, .f32⟩ : BufTy).Contents (Elt F) → (⟨S500x1, .f32⟩ : BufTy).Contents (Elt F)),
    StableHlo.unary main_v7 main_v15 (broadcastInDim S500x1 ![0] bcast_S500_S500x1_0 : (⟨S500, .f32⟩ : BufTy).Contents (Elt F) → (⟨S500x1, .f32⟩ : BufTy).Contents (Elt F)),
    StableHlo.unary main_v9 main_v16 (broadcastInDim S500x1 ![0] bcast_S500_S500x1_0 : (⟨S500, .f32⟩ : BufTy).Contents (Elt F) → (⟨S500x1, .f32⟩ : BufTy).Contents (Elt F)),
    StableHlo.unary main_v11 main_v17 (broadcastInDim S500x1 ![0] bcast_S500_S500x1_0 : (⟨S500, .f32⟩ : BufTy).Contents (Elt F) → (⟨S500x1, .f32⟩ : BufTy).Contents (Elt F)),
    StableHlo.nary ![main_v12, main_v13, main_v14, main_v15, main_v16, main_v17] main_v18 (fun u => (concatenate S500x6 1 [⟨S500x1, (u 0 : (⟨S500x1, .f32⟩ : BufTy).Contents (Elt F))⟩, ⟨S500x1, (u 1 : (⟨S500x1, .f32⟩ : BufTy).Contents (Elt F))⟩, ⟨S500x1, (u 2 : (⟨S500x1, .f32⟩ : BufTy).Contents (Elt F))⟩, ⟨S500x1, (u 3 : (⟨S500x1, .f32⟩ : BufTy).Contents (Elt F))⟩, ⟨S500x1, (u 4 : (⟨S500x1, .f32⟩ : BufTy).Contents (Elt F))⟩, ⟨S500x1, (u 5 : (⟨S500x1, .f32⟩ : BufTy).Contents (Elt F))⟩] concatenates_S500x1_S500x1_S500x1_S500x1_S500x1_S500x1_S500x6_d1 : (⟨S500x6, .f32⟩ : BufTy).Contents (Elt F))),
    StableHlo.nullary main_cst_0 (constant S_ .f32 0x00000000#32),
    StableHlo.unary main_cst_0 main_v19 (broadcastInDim S6x512 ![] bcast_S_S6x512 : (⟨S_, .f32⟩ : BufTy).Contents (Elt F) → (⟨S6x512, .f32⟩ : BufTy).Contents (Elt F)),
    StableHlo.unary main_v18 main_v20 ((transpose S6x500 [1, 0] · transposes_S500x6_S6x500_1_0) : (⟨S500x6, .f32⟩ : BufTy).Contents (Elt F) → (⟨S6x500, .f32⟩ : BufTy).Contents (Elt F)),
    StableHlo.nullary main_c (constantI S_ 32 0#32),
    StableHlo.unary main_c main_v21 (broadcastInDim S1 ![] bcast_S_S1 : (⟨S_, .i32⟩ : BufTy).Contents (Elt F) → (⟨S1, .i32⟩ : BufTy).Contents (Elt F)),
    StableHlo.ternary main_v19 main_v21 main_v20 main_v22 ((fun x i u => Host.scatter scatter_S6x512_S1_S6x500_01_n_1_0 (fun _ b => b) x i u) : (⟨S6x512, .f32⟩ : BufTy).Contents (Elt F) → (⟨S1, .i32⟩ : BufTy).Contents (Elt F) → (⟨S6x500, .f32⟩ : BufTy).Contents (Elt F) → (⟨S6x512, .f32⟩ : BufTy).Contents (Elt F)),
    StableHlo.reshape main_v22 main_v23 (rfl : (.f32 : EltTy) = .f32) shapeCasts_S6x512_S3072 ]

/-- The operation between the two kernels: `xt` transposed. -/
abbrev midOps : List (HloOp τ sig (Elt F)) :=
  [ StableHlo.unary main_arg0 main_v25 ((transpose S16x262144 [1, 0] · transposes_S262144x16_S16x262144_1_0) : (⟨S262144x16, .f32⟩ : BufTy).Contents (Elt F) → (⟨S16x262144, .f32⟩ : BufTy).Contents (Elt F)) ]

/-- The operations after the kernels: the result reshaped and transposed. -/
abbrev postOps : List (HloOp τ sig (Elt F)) :=
  [ StableHlo.reshape main_v26 main_v27 (rfl : (.f32 : EltTy) = .f32) shapeCasts_S256x262144_S16x16x262144,
    StableHlo.unary main_v27 main_v28 ((transpose S262144x16x16 [2, 0, 1] · transposes_S16x16x262144_S262144x16x16_2_0_1) : (⟨S16x16x262144, .f32⟩ : BufTy).Contents (Elt F) → (⟨S262144x16x16, .f32⟩ : BufTy).Contents (Elt F)) ]

/-- @main is the first operations, the gather kernel, the transpose, the pipelined region, the last operations. -/
theorem main_eq (d : Dev nD) : main (F := F) d
    = (StableHlo.seq preOps >>= fun _ => (sc (F := F)).run d 0 >>= fun _ => StableHlo.seq midOps >>= fun _ =>
        Prog.lift (.customCall (SparseCore.inner (Pipeline.entry 0)) ()) >>= fun _ => StableHlo.seq postOps >>= fun _ => pure ⟨⟩) := by
  rfl

/-! ## The operations touch the unscoped buffers only -/

theorem pre_sub : ∀ op ∈ preOps (F := F), op.bufs ⊆ Pipeline.ucRefs τ sig := by
  intro op h
  apply Pipeline.sub_ucRefs
  simp only [preOps, List.mem_cons, List.mem_nil_iff, or_false] at h
  rcases h with rfl | rfl | rfl | rfl | rfl | rfl | rfl | rfl | rfl | rfl | rfl | rfl | rfl | rfl | rfl | rfl | rfl | rfl | rfl | rfl | rfl | rfl | rfl | rfl | rfl | rfl | rfl <;> simp
theorem mid_sub : ∀ op ∈ midOps (F := F), op.bufs ⊆ Pipeline.ucRefs τ sig := by
  intro op h
  apply Pipeline.sub_ucRefs
  obtain rfl := List.mem_singleton.mp h
  simp
theorem post_sub : ∀ op ∈ postOps (F := F), op.bufs ⊆ Pipeline.ucRefs τ sig := by
  intro op h
  apply Pipeline.sub_ucRefs
  simp only [postOps, List.mem_cons, List.mem_nil_iff, or_false] at h
  rcases h with rfl | rfl <;> simp
theorem pre_fresh : ∀ op ∈ preOps (F := F), op.fresh = ∅ := by
  intro op h
  simp only [preOps, List.mem_cons, List.mem_nil_iff, or_false] at h
  rcases h with rfl | rfl | rfl | rfl | rfl | rfl | rfl | rfl | rfl | rfl | rfl | rfl | rfl | rfl | rfl | rfl | rfl | rfl | rfl | rfl | rfl | rfl | rfl | rfl | rfl | rfl | rfl <;> rfl
theorem mid_fresh : ∀ op ∈ midOps (F := F), op.fresh = ∅ := by
  intro op h
  obtain rfl := List.mem_singleton.mp h
  rfl
theorem post_fresh : ∀ op ∈ postOps (F := F), op.fresh = ∅ := by
  intro op h
  simp only [postOps, List.mem_cons, List.mem_nil_iff, or_false] at h
  rcases h with rfl | rfl <;> rfl

/-! ## The buffers' contents -/

variable (m : (ℓ : Loc nD τ sig) → Buf (Elt F) ℓ)

/-- At launch, -/
def V₀ (d : Dev nD) : Valuation τ sig (Elt F) := fun b => m (d, b)
/-- when the gather kernel starts, -/
def V₁ (d : Dev nD) : Valuation τ sig (Elt F) := StableHlo.after preOps (V₀ m d)
/-- after it, -/
def V₂ (d : Dev nD) : Valuation τ sig (Elt F) :=
  Function.update (V₁ m d) (Proc.devRef .tc main_v24) (coef (V₁ m d main_v23) (V₁ m d main_arg1))
/-- when the region starts, -/
def V₃ (d : Dev nD) : Valuation τ sig (Elt F) := StableHlo.after midOps (V₂ m d)
/-- after it, -/
def V₄ (d : Dev nD) : Valuation τ sig (Elt F) :=
  Function.update (V₃ m d) (Proc.devRef .tc main_v26) (tcOut (V₃ m d main_v25) (V₃ m d main_v24) (V₃ m d main_cst))
/-- and at the end. -/
def V₅ (d : Dev nD) : Valuation τ sig (Elt F) := StableHlo.after postOps (V₄ m d)

end Cert.Proof.Diffuse

end
-- ==== Proof.Launch.lean ====
/-
  The launch of the whole program. What the gather kernel's call passes between the TensorCore, the sequencers and the tiles
  (a read share of the table and of the time steps to each tile, and its own columns of the result), @main's run from the
  launch memory to the contents `V₅`, and `run_main`: every run of the program ends with every unscoped buffer of the
  TensorCore at `V₅` and every semaphore at zero.
-/
module

public import proofs.«01_k».proof.Proof.Tile
public import proofs.«01_k».proof.Proof.HostOps

@[expose] public section

noncomputable section

namespace Cert.Proof.Diffuse

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The gather kernel's buffers, dealt to the tiles -/

theorem nSub_zero : (K (F := F)).nSub 0 = 16 := rfl
theorem nCore_zero : (K (F := F)).nCore 0 = 2 := rfl

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev tblLoc (d : Dev nD) : Loc nD τ sig := (SparseCore.T d).loc main_v23
abbrev tsLoc (d : Dev nD) : Loc nD τ sig := (SparseCore.T d).loc main_arg1
abbrev outLoc (d : Dev nD) : Loc nD τ sig := (SparseCore.T d).loc main_v24

/-- The columns of part `r` of tile number `w`. -/
def partCols (p : Fin 32 × Fin 4) : Finset S6x262144.Idx := outCols (8192 * p.1.val + 2048 * p.2.val)

theorem partCols_disjoint : ∀ p ∈ (Finset.univ : Finset (Fin 32 × Fin 4)), ∀ p' ∈ (Finset.univ : Finset (Fin 32 × Fin 4)),
    p ≠ p' → Disjoint (partCols p) (partCols p') := by
  rintro ⟨w, r⟩ - ⟨w', r'⟩ - hne
  refine Finset.disjoint_left.mpr fun i h h' => hne ?_
  have h := (Finset.mem_filter.mp h).2
  have h' := (Finset.mem_filter.mp h').2
  simp only at h h'
  refine Prod.ext (Fin.ext ?_) (Fin.ext ?_) <;> simp only <;> omega

theorem partCols_cover : (Finset.univ : Finset (Fin 32 × Fin 4)).biUnion partCols = Finset.univ := by
  refine Finset.eq_univ_iff_forall.mpr fun i => Finset.mem_biUnion.mpr ?_
  have hi : (i 1).val < 262144 := (i 1).isLt
  refine ⟨(⟨(i 1).val / 8192, by omega⟩, ⟨(i 1).val % 8192 / 2048, by omega⟩), Finset.mem_univ _, Finset.mem_filter.mpr ⟨Finset.mem_univ _, ?_⟩⟩
  simp only
  omega

/-- What tile number `w` is handed: its read shares of the table and of the time steps, and its columns of the result. -/
def wpart (d : Dev nD) (tb : Buf (Elt F) (tblLoc d)) (ts : Buf (Elt F) (tsLoc d)) (f : Buf (Elt F) (outLoc d)) (w : Fin 32) : sProp 𝕄 :=
  iprop((tblLoc d ↦{Transfers.shareTok fullShare 32 w} tb) ∗ (tsLoc d ↦{Transfers.shareTok fullShare 32 w} ts)
    ∗ bigSep Finset.univ fun r : Fin 4 => outLoc d ↦[partCols (w, r)]{fullShare} f)

/-- What stays behind while the tiles run: the rest of the table's and of the time steps' share. -/
def left (d : Dev nD) (tb : Buf (Elt F) (tblLoc d)) (ts : Buf (Elt F) (tsLoc d)) : sProp 𝕄 :=
  iprop((tblLoc d ↦{Transfers.shareDrop fullShare 32} tb) ∗ (tsLoc d ↦{Transfers.shareDrop fullShare 32} ts))

/-- The number of the tile at core `c`, subcore `i`. -/
def tileNo (p : Fin 2 × Fin 16) : Fin 32 := ⟨2 * p.2.val + p.1.val, by have := p.1.isLt; have := p.2.isLt; omega⟩
/-- Every number belongs to one tile. -/
def tileEquiv : Fin 2 × Fin 16 ≃ Fin 32 where
  toFun := tileNo
  invFun w := (⟨w.val % 2, by omega⟩, ⟨w.val / 2, by omega⟩)
  left_inv p := by
    have := p.1.isLt
    refine Prod.ext (Fin.ext ?_) (Fin.ext ?_) <;> simp only [tileNo] <;> omega
  right_inv w := Fin.ext (by simp only [tileNo]; omega)

/-- The three buffers, whole, are what stays behind and what the tiles are handed. -/
theorem deal (d : Dev nD) (tb : Buf (Elt F) (tblLoc d)) (ts : Buf (Elt F) (tsLoc d)) (f : Buf (Elt F) (outLoc d)) :
    (iprop((tblLoc d ↦{fullShare} tb) ∗ (tsLoc d ↦{fullShare} ts) ∗ outLoc d ↦{fullShare} f) : sProp 𝕄)
      ⊣⊢ iprop(left d tb ts ∗ bigSep Finset.univ fun c : Fin 2 => bigSep Finset.univ fun i : Fin 16 => wpart d tb ts f (tileNo (c, i))) := by
  have hout : (outLoc d ↦{fullShare} f : sProp 𝕄) = bigSep Finset.univ fun w : Fin 32 => bigSep Finset.univ fun r : Fin 4 => outLoc d ↦[partCols (w, r)]{fullShare} f := by
    rw [← bigSep_univ_prod (fun p : Fin 32 × Fin 4 => (outLoc d ↦[partCols p]{fullShare} f : sProp 𝕄)),
      ← pointsTo_biUnion Finset.univ (ℓ := outLoc d) partCols partCols_disjoint, partCols_cover]
  have hall : (bigSep Finset.univ fun c : Fin 2 => bigSep Finset.univ fun i : Fin 16 => (wpart d tb ts f (tileNo (c, i)) : sProp 𝕄))
      = bigSep Finset.univ (wpart d tb ts f) := by
    rw [← bigSep_univ_prod (fun p : Fin 2 × Fin 16 => (wpart d tb ts f (tileNo p) : sProp 𝕄))]
    exact (bigSep_univ_equiv tileEquiv (wpart d tb ts f)).symm
  rw [hall, hout]
  unfold wpart left
  rw [bigSep_sep', bigSep_sep']
  constructor
  · iintro ⟨Ht, Hs, Ho⟩
    ihave Ht' := (Transfers.pointsTo_toks_split fullShare 32) $$ Ht
    ihave Hs' := (Transfers.pointsTo_toks_split fullShare 32) $$ Hs
    icases Ht' with ⟨Ht, Htk⟩
    icases Hs' with ⟨Hs, Hsk⟩
    isplitl [Ht Hs]
    · isplitl [Ht] <;> iassumption
    isplitl [Htk]; · iexact Htk
    isplitl [Hsk]; · iexact Hsk
    iexact Ho
  · iintro ⟨⟨Ht, Hs⟩, Htk, Hsk, Ho⟩
    isplitl [Ht Htk]
    · iapply (Transfers.pointsTo_toks_join fullShare 32); isplitl [Ht] <;> iassumption
    isplitl [Hs Hsk]
    · iapply (Transfers.pointsTo_toks_join fullShare 32); isplitl [Hs] <;> iassumption
    iexact Ho

/-! ## The call's payloads -/

/-- The table, the time steps and the result's contents when the gather kernel starts, and the coefficients it leaves. -/
abbrev tbA (d : Dev nD) : Buf (Elt F) (tblLoc d) := V₁ m d main_v23
abbrev tsA (d : Dev nD) : Buf (Elt F) (tsLoc d) := V₁ m d main_arg1
abbrev outA (d : Dev nD) : Buf (Elt F) (outLoc d) := V₁ m d main_v24
abbrev outB (d : Dev nD) : Buf (Elt F) (outLoc d) := coef (F := F) (V₁ m d main_v23) (V₁ m d main_arg1)

/-- A tile goes out with its part and comes back with its columns of the result filled; a core with its sixteen tiles'. -/
def P : (K (F := F)).Pay (N := 1) (nD := nD) (Val := Elt F) (Name := ℕ) (U := UU) where
  st := fun q d c => match q with | 0 => bigSep Finset.univ fun i : Fin 16 => wpart d (tbA m d) (tsA m d) (outA m d) (tileNo (Fin.cast nCore_zero c, i))
  dn := fun q d c => match q with | 0 => bigSep Finset.univ fun i : Fin 16 => wpart d (tbA m d) (tsA m d) (outB m d) (tileNo (Fin.cast nCore_zero c, i))
  go := fun q d c i => match q with | 0 => wpart d (tbA m d) (tsA m d) (outA m d) (tileNo (Fin.cast nCore_zero c, Fin.cast nSub_zero i))
  td := fun q d c i => match q with | 0 => wpart d (tbA m d) (tsA m d) (outB m d) (tileNo (Fin.cast nCore_zero c, Fin.cast nSub_zero i))
  x := fun _ _ => iprop(emp)

instance wpart_storable (d : Dev nD) (tb ts f) (w : Fin 32) : BI.Storable (upEmb : UEmb _ 𝕄) (wpart d tb ts f w) := by
  unfold wpart; infer_instance

instance P_storable : (P m).IsStorable where
  st := fun q d c => match q with
    | 0 => (inferInstance : BI.Storable (upEmb : UEmb _ 𝕄) (bigSep Finset.univ fun i : Fin 16 => wpart d (tbA m d) (tsA m d) (outA m d) (tileNo (Fin.cast nCore_zero c, i))))
  dn := fun q d c => match q with
    | 0 => (inferInstance : BI.Storable (upEmb : UEmb _ 𝕄) (bigSep Finset.univ fun i : Fin 16 => wpart d (tbA m d) (tsA m d) (outB m d) (tileNo (Fin.cast nCore_zero c, i))))
  go := fun q d c i => match q with
    | 0 => (inferInstance : BI.Storable (upEmb : UEmb _ 𝕄) (wpart d (tbA m d) (tsA m d) (outA m d) (tileNo (Fin.cast nCore_zero c, Fin.cast nSub_zero i))))
  td := fun q d c i => match q with
    | 0 => (inferInstance : BI.Storable (upEmb : UEmb _ 𝕄) (wpart d (tbA m d) (tsA m d) (outB m d) (tileNo (Fin.cast nCore_zero c, Fin.cast nSub_zero i))))

/-! ## The launch theorem's obligations -/

theorem defs₀_vector (c : Fin τ.nSC) (s : Fin τ.nSub) :
    defs₀ (F := F) (.scVector c s) 0 ()
      = SparseCore.onTile hcore0 hsub0 (fun c s => cc0_gather_kernel (coordsV c s)
          tblV (Memref.isWhole_whole _) tsV (Memref.isWhole_whole _) outV (Memref.isWhole_whole _)
          sT (Memref.isWhole_whole _) sI (Memref.isWhole_whole _) sB (Memref.isWhole_whole _) cc0_scratch3 cc0_scoped0 cc0_scoped1) ⟨⟩ c s := rfl

/-- A tile's recorded waits, read with the call's own allowed as well. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The time steps name table rows at launch, on every device. -/
def PreOK : Prop := ∀ d : Dev nD, InTable (F := F) (s := S262144) (m ((SparseCore.T d).loc main_arg1))

theorem tsA_eq (d : Dev nD) : tsA m d = m ((SparseCore.T d).loc main_arg1) := by
  show StableHlo.after preOps (V₀ m d) (Proc.devRef .tc main_arg1) = _
  rw [StableHlo.after_of_forall_not_mem]
  · rfl
  · intro op h
    simp only [preOps, List.mem_cons, List.mem_nil_iff, or_false] at h
    rcases h with rfl | rfl | rfl | rfl | rfl | rfl | rfl | rfl | rfl | rfl | rfl | rfl | rfl | rfl | rfl | rfl | rfl | rfl | rfl | rfl | rfl | rfl | rfl | rfl | rfl | rfl | rfl <;>
      · simp only [StableHlo.nullary_writes, StableHlo.unary_writes, StableHlo.reshape_writes, StableHlo.nary_writes, StableHlo.ternary_writes, Finset.mem_singleton]
        exact StableHlo.devRef_ne_of_ne (by decide)

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hts : InTable (F := F) (s := S262144) (tsA m d) := by rw [tsA_eq]; exact hpre d
  exact (tile_body d (coordsV ⟨_, hc.1⟩ ⟨_, hc.2⟩) (tbA m d) (tsA m d) hts (outA m d) _ _ hF O W hO).trans (wp_mono frame _ _ fun _ => obl_post)

theorem vecSplit : (K (F := F)).VecSplit' (P m) 0 := by
  intro d c
  show (bigSep Finset.univ fun i : Fin 16 => wpart d (tbA m d) (tsA m d) (outA m d) (tileNo (Fin.cast nCore_zero c, i)) : sProp 𝕄)
    ⊢ |={Set.univ}=> iprop((bigSep Finset.univ fun i : Fin 16 => wpart d (tbA m d) (tsA m d) (outA m d) (tileNo (Fin.cast nCore_zero c, i)))
      ∗ ((bigSep Finset.univ fun i : Fin 16 => wpart d (tbA m d) (tsA m d) (outB m d) (tileNo (Fin.cast nCore_zero c, i)))
        -∗ bigSep Finset.univ fun i : Fin 16 => wpart d (tbA m d) (tsA m d) (outB m d) (tileNo (Fin.cast nCore_zero c, i))))
  iintro H; imodintro
  isplitl [H]; · iexact H
  iintro H; iexact H

/-! ## The launch element of the ghost state -/

/-- The one admission of each pipeline's configuration. -/
abbrev adm : (p : Fin 1) → (pcfgs (F := F) p).Adm := fun p => (cfgs p).toPCfg_adm

/-- The handshakes' rounds and the pipelined region's, each at its start. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipelined region's ghost state on a device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  · rw [show (fun thr : Thread nD τ => bigSep Finset.univ fun q : Fin 1 => (P m).x q thr) = fun _ => (iprop(emp) : sProp 𝕄) from
      funext fun _ => bigSep_emp' _, bigSep_emp']
    iempintro

/-! ## @main on the TensorCore -/

/-- The three buffers of the gather kernel among the unscoped ones. -/
def scRefs : Finset (DevRef τ sig) := {Proc.devRef .tc main_v23, Proc.devRef .tc main_arg1, Proc.devRef .tc main_v24}

theorem scRefs_sub : scRefs ⊆ Pipeline.ucRefs τ sig := by
  intro b hb
  simp only [scRefs, Finset.mem_insert, Finset.mem_singleton] at hb
  rcases hb with rfl | rfl | rfl <;>
    exact Finset.mem_filter.mpr ⟨StableHlo.devRef_mem_tcRefs _, by decide⟩

theorem held_sc (d : Dev nD) (V : Valuation τ sig (Elt F)) :
    (StableHlo.held (d.tc : Thread nD τ) (Pipeline.ucRefs τ sig) V : sProp 𝕄)
      = iprop(((tblLoc d ↦{fullShare} V main_v23) ∗ (tsLoc d ↦{fullShare} V main_arg1) ∗ outLoc d ↦{fullShare} V main_v24)
        ∗ StableHlo.held (d.tc : Thread nD τ) (Pipeline.ucRefs τ sig \ scRefs) V) := by
  rw [StableHlo.held_sub_split _ scRefs_sub]
  congr 1
  unfold StableHlo.held scRefs
  rw [SparseCore.bigSep_insert' (by decide), SparseCore.bigSep_insert' (by decide), bigSep_singleton]

/-- The gather kernel's buffers put back, with new contents for its result. -/
theorem held_update (d : Dev nD) (V : Valuation τ sig (Elt F)) (f : Buf (Elt F) (outLoc d)) :
    (iprop(((tblLoc d ↦{fullShare} V main_v23) ∗ (tsLoc d ↦{fullShare} V main_arg1) ∗ outLoc d ↦{fullShare} f)
        ∗ StableHlo.held (d.tc : Thread nD τ) (Pipeline.ucRefs τ sig \ scRefs) V) : sProp 𝕄)
      = StableHlo.held (d.tc : Thread nD τ) (Pipeline.ucRefs τ sig) (Function.update V (Proc.devRef .tc main_v24) f) := by
  have hrest : (StableHlo.held (d.tc : Thread nD τ) (Pipeline.ucRefs τ sig \ scRefs) (Function.update V (Proc.devRef .tc main_v24) f) : sProp 𝕄)
      = StableHlo.held (d.tc : Thread nD τ) (Pipeline.ucRefs τ sig \ scRefs) V :=
    StableHlo.held_congr _ fun b hb => Function.update_of_ne (fun e => (Finset.mem_sdiff.mp hb).2 (by rw [e]; simp [scRefs])) _ _
  rw [held_sc, hrest, Function.update_self, Function.update_of_ne (StableHlo.devRef_ne_of_ne (by decide)),
    Function.update_of_ne (StableHlo.devRef_ne_of_ne (by decide))]

/-- The pipelined region, from the contents `V₃` to `V₄`. -/
abbrev region : Pipeline.RegionSeg (pcfgs (F := F)) adm (pdats (fun c b => V₃ m c b) adm) none defs₀ 𝒱₀ (K (F := F)).L (K (F := F)).lev 0 :=
  reg (fun c b => V₃ m c b) (fun c b => V₄ m c b) adm (fun _ => Function.update_self _ _ _)
    (fun _ _ h => Function.update_of_ne (StableHlo.devRef_ne_of_ne h) _ _)

theorem region_pre (d : Dev nD) : (region m).pre d = iprop(unscopedBufs d (fun b => V₃ m d b)
    ∗ ∃ W, ⌜(K (F := F)).WBelow (d.tc : Thread nD τ) W 8⌝ ∗ owes (d.tc : Thread nD τ) (0 : CellTallies nD τ sig (HIx 1)) W) := rfl
theorem region_post (d : Dev nD) : (region m).post d = iprop(unscopedBufs d (fun b => V₄ m d b)
    ∗ ∃ W, ⌜(K (F := F)).WBelow (d.tc : Thread nD τ) W 8⌝ ∗ owes (d.tc : Thread nD τ) (0 : CellTallies nD τ sig (HIx 1)) W) := rfl

/-- What @main ends with on a device. -/
abbrev FIN (d : Dev nD) : sProp 𝕄 := StableHlo.held (d.tc : Thread nD τ) (Pipeline.ucRefs τ sig) (V₅ m d)

theorem st0_eq (d : Dev nD) : (bigSep Finset.univ fun c : Fin ((K (F := F)).nCore 0) => (P m).st 0 d c)
    = bigSep Finset.univ fun c : Fin 2 => bigSep Finset.univ fun i : Fin 16 => (wpart d (tbA m d) (tsA m d) (outA m d) (tileNo (c, i)) : sProp 𝕄) := rfl
theorem dn0_eq (d : Dev nD) : (bigSep Finset.univ fun c : Fin ((K (F := F)).nCore 0) => (P m).dn 0 d c)
    = bigSep Finset.univ fun c : Fin 2 => bigSep Finset.univ fun i : Fin 16 => (wpart d (tbA m d) (tsA m d) (outB m d) (tileNo (c, i)) : sProp 𝕄) := rfl

/-- @main on device `d`'s TensorCore, from the launch memory to `V₅`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = _ from Pipeline.unscopedBufs_held d (V₀ m d)]
  iintro ⟨#Hctx, Hst, ⟨Hb, Hub, Hts, -⟩, Hg, Ht⟩
  iapply (StableHlo.wp_seq 𝒱 none Set.univ d (Pipeline.ucRefs τ sig) _ preOps pre_sub pre_fresh (V₀ m d)) $$ [Hb Hub]
  · isplitl [Hb] <;> iassumption
  iintro ⟨Hb, Hub⟩
  rw [wp_bind]
  ihave Hsp := (show (StableHlo.held (d.tc : Thread nD τ) (Pipeline.ucRefs τ sig) (StableHlo.after preOps (V₀ m d)) : sProp 𝕄) ⊢ _ from
    Entails.of_eq (held_sc d (V₁ m d))) $$ Hub
  icases Hsp with ⟨Hsc, Hrest⟩
  ihave Hd := (deal d (tbA m d) (tsA m d) (outA m d)).1 $$ Hsc
  icases Hd with ⟨Hleft, Htiles⟩
  iapply ((K (F := F)).wp_run (D (F := F)) 𝒱 (EH := EH) (P := P m) κ d 0)
  isplitr; · iexact Hctx
  isplitl [Hst]; · iexact Hst
  isplitl [Htiles]; · rw [st0_eq]; iexact Htiles
  iintro ⟨Hst, Hdn⟩
  ihave Hdn' := (Entails.of_eq (dn0_eq m d)) $$ Hdn
  ihave Hsc := (deal d (tbA m d) (tsA m d) (outB m d)).2 $$ [Hleft Hdn']
  · isplitl [Hleft] <;> iassumption
  ihave Hub := (Entails.of_eq (held_update d (V₁ m d) (outB m d))) $$ [Hsc Hrest]
  · isplitl [Hsc] <;> iassumption
  iapply (StableHlo.wp_seq 𝒱 none Set.univ d (Pipeline.ucRefs τ sig) _ midOps mid_sub mid_fresh (V₂ m d)) $$ [Hb Hub]
  · isplitl [Hb]; · iexact Hb
    iexact Hub
  iintro ⟨Hb, Hub⟩
  rw [wp_bind]
  unfold SparseCore.Cfg.tcSt
  icases Hst with ⟨⟨%W, %hW, HO⟩, Hst⟩
  rw [show (K (F := F)).Otc d ((0 : Fin 1).val + 1) = 0 from (K (F := F)).Otc_end d le_rfl, show (K (F := F)).Otc d 1 = 0 from (K (F := F)).Otc_end d le_rfl]
  iapply ((K (F := F)).wp_liftProg (D (F := F)) 𝒱 (SparseCore.T d) Set.univ none (.op (.customCall (Pipeline.entry 0) ()) .ret) _)
  iapply (Pipeline.RegionSeg.wp (pcfgs (F := F)) adm (pdats (fun c b => V₃ m c b) adm) none cellOf_inj EP defs₀ 𝒱₀ (K (F := F)).L (K (F := F)).lev
    (region m) d none (fun u hu => absurd hu (Option.not_mem_none u)) .ret _)
  rw [region_pre, region_post]
  isplitr [Hb Hub HO Hg Ht]
  swap
  · isplitl [Hb]; · iexact Hb
    isplitl [Hub HO]
    · isplitl [Hub]
      · iapply (show (StableHlo.held (d.tc : Thread nD τ) (Pipeline.ucRefs τ sig) (StableHlo.after midOps (V₂ m d)) : sProp 𝕄) ⊢ _ from
          Entails.of_eq (Pipeline.unscopedBufs_held d (V₃ m d)).symm) $$ Hub
      · iexists W; isplitr
        · ipureintro; exact hW
        iexact HO
    isplitr; · iapply ((K (F := F)).ctx_levAts κ); iexact Hctx
    isplitl [Hg] <;> iassumption
  iintro ⟨Hb, Hub, %W', %hW', HO⟩
  rw [wp_ret]
  imodintro
  ihave Hub' := (Entails.of_eq (Pipeline.unscopedBufs_held d (V₄ m d))) $$ Hub
  iapply (StableHlo.wp_seq 𝒱 none Set.univ d (Pipeline.ucRefs τ sig) _ postOps post_sub post_fresh (V₄ m d)) $$ [Hb Hub']
  · isplitl [Hb] <;> iassumption
  iintro ⟨Hb, Hub⟩
  rw [wp_pure]
  imodintro
  isplitl [HO Hst]
  · isplitl [HO]
    · iexists W'; isplitr
      · ipureintro; exact hW'
      iexact HO
    iexact Hst
  isplitl [Hub]; · iexact Hub
  isplitl [Hb] <;> iassumption

/-- At the end every unscoped buffer of the device's TensorCore is at `V₅`. -/
def fq (d : Dev nD) (s' : Phys nD τ sig (Elt F)) : Prop := ∀ b ∈ Pipeline.ucRefs τ sig, s'.mem.mem (d, b) = V₅ m d b

theorem hfin (d : Dev nD) (s' : Phys nD τ sig (Elt F)) : iprop(FIN m d ∗ SI s') ⊢ (⌜fq m d s'⌝ : sProp 𝕄) := by
  have one (b : DevRef τ sig) (hb : b ∈ Pipeline.ucRefs τ sig) : iprop(FIN m d ∗ SI s') ⊢ (⌜s'.mem.mem (d, b) = V₅ m d b⌝ : sProp 𝕄) := by
    iintro ⟨H, HSI⟩
    ihave Hb := (show FIN m d ⊢ ((d, b) ↦{fullShare} V₅ m d b : sProp 𝕄) from
      bigSep_elim (Φ := fun b : DevRef τ sig => ((d, b) ↦{fullShare} V₅ m d b : sProp 𝕄)) hb) $$ H
    ihave H := (SI_pointsTo_agree (st := s') (ℓ := (d, b)) (I := Finset.univ) (q := fullShare) (f := V₅ m d b)) $$ [HSI Hb]
    · isplitl [HSI] <;> iassumption
    icases H with %h
    ipureintro; exact funext fun i => h i (Finset.mem_univ i)
  exact ((Laws.forall_intro fun b => (Laws.forall_intro fun hb => one b hb).trans Laws.pure_forall.2).trans Laws.pure_forall.2)

/-! ## The program's run -/

/-- What a run ends with. -/
def QC : PUnit × MemSt nD τ sig (Elt F) → Prop := fun r =>
  (∀ d : Dev nD, ∀ b ∈ Pipeline.ucRefs τ sig, r.2.mem (d, b) = V₅ m d b) ∧ r.2.sem = fun _ => 0

/-- Every run of the program, from a memory whose time steps name table rows, ends with the buffers at `V₅`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Diffuse

end
-- ==== Proof.Frames.lean ====
/-
  The frames: from what the launch memory's precondition says of the time steps, every run ends with the five arguments
  unchanged and every semaphore at zero.
-/
module

public import proofs.«01_k».proof.Proof.Launch
public import proofs.«01_k».proof.Proof.Gen.Pre_in_range
public import Idealize.ShloMosaic.Lib.ReduceAll

@[expose] public section

noncomputable section

namespace Cert.Proof.Diffuse

open Cert.KernelIdeal Cert.KernelIdeal.Gen

open Idealize.ShloMosaic Idealize.ShloMosaic.TcCoe
open Idealize.SL Idealize.SL.Sem

variable {F : FTy → Type} [FloatOps F]

variable (m : (ℓ : Loc nD τ sig) → Buf (Elt F) ℓ)

/-! ## The arguments at the end -/

/-- A buffer none of the operations writes keeps its contents. -/
theorem after_kept (ops : List (HloOp τ sig (Elt F))) (V : Valuation τ sig (Elt F)) (b : Ref sig .tc)
    (h : ∀ op ∈ ops, (Proc.devRef .tc b : DevRef τ sig) ∉ op.writes) : StableHlo.after ops V b = V b :=
  StableHlo.after_of_forall_not_mem _ _ h

theorem pre_kept (V : Valuation τ sig (Elt F)) (b : Ref sig .tc) (hb : b ∈ [main_arg0, main_arg1, main_arg2, main_arg3, main_arg4]) :
    StableHlo.after preOps V b = V b := by
  refine after_kept _ _ _ fun op h => ?_
  simp only [preOps, List.mem_cons, List.mem_nil_iff, or_false] at h hb
  rcases hb with rfl | rfl | rfl | rfl | rfl <;>
  rcases h with rfl | rfl | rfl | rfl | rfl | rfl | rfl | rfl | rfl | rfl | rfl | rfl | rfl | rfl | rfl | rfl | rfl | rfl | rfl | rfl | rfl | rfl | rfl | rfl | rfl | rfl | rfl <;>
    · simp only [StableHlo.nullary_writes, StableHlo.unary_writes, StableHlo.reshape_writes, StableHlo.nary_writes, StableHlo.ternary_writes, Finset.mem_singleton]
      exact StableHlo.devRef_ne_of_ne (by decide)
theorem mid_kept (V : Valuation τ sig (Elt F)) (b : Ref sig .tc) (hb : b ≠ main_v25) : StableHlo.after midOps V b = V b := by
  refine after_kept _ _ _ fun op h => ?_
  obtain rfl := List.mem_singleton.mp h
  simp only [StableHlo.unary_writes, Finset.mem_singleton]
  exact StableHlo.devRef_ne_of_ne hb
theorem post_kept (V : Valuation τ sig (Elt F)) (b : Ref sig .tc) (h27 : b ≠ main_v27) (h28 : b ≠ main_v28) : StableHlo.after postOps V b = V b := by
  refine after_kept _ _ _ fun op h => ?_
  simp only [postOps, List.mem_cons, List.mem_nil_iff, or_false] at h
  rcases h with rfl | rfl <;> simp only [StableHlo.unary_writes, StableHlo.reshape_writes, Finset.mem_singleton]
  · exact StableHlo.devRef_ne_of_ne h27
  · exact StableHlo.devRef_ne_of_ne h28

theorem V₂_kept (d : Dev nD) (b : Ref sig .tc) (h : b ≠ main_v24) : V₂ m d b = V₁ m d b :=
  Function.update_of_ne (StableHlo.devRef_ne_of_ne h) _ _
theorem V₄_kept (d : Dev nD) (b : Ref sig .tc) (h : b ≠ main_v26) : V₄ m d b = V₃ m d b :=
  Function.update_of_ne (StableHlo.devRef_ne_of_ne h) _ _

/-- The five arguments end as they were launched. -/
theorem V₅_arg (d : Dev nD) (b : Ref sig .tc) (hb : b ∈ [main_arg0, main_arg1, main_arg2, main_arg3, main_arg4]) :
    V₅ m d b = m ((d.tc : Thread nD τ).loc b) := by
  have hne (c : Ref sig .tc) (hc : c ∉ [main_arg0, main_arg1, main_arg2, main_arg3, main_arg4]) : b ≠ c := fun e => hc (e ▸ hb)
  refine (post_kept _ b (hne _ (by decide)) (hne _ (by decide))).trans ((V₄_kept m d b (hne _ (by decide))).trans ?_)
  refine (mid_kept _ b (hne _ (by decide))).trans ((V₂_kept m d b (hne _ (by decide))).trans ?_)
  exact pre_kept _ b hb

theorem mem_ucRefs (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs _, h⟩

/-! ## What the preconditions say of the time steps -/

instance : Subsingleton (⟨0, ![]⟩ : Shape).Idx := ⟨fun a b => funext fun x => x.elim0⟩

/-- The word test of a time step, `0 ≤ v` and `v < 500`, gives its value below 500. -/
theorem lt_of_tests (v : BitVec 32) (e : IntOp.andi (IntOp.cmpi .sge v 0#32) (IntOp.cmpi .slt v 500#32) = 1#1) : v.toNat < 500 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Two tests that hold together hold each. -/
theorem both {a b : BitVec 1} (e : IntOp.andi a b = 1#1) : a = 1#1 ∧ b = 1#1 := by
  revert a b; decide

/-- `in_range` is all ones only if every time step is below 500. -/
theorem inTable_of_in_range (x : FVec F ⟨2, ![262144, 16]⟩ .f32) (t : IVec ⟨1, ![262144]⟩ 32) (a b c : FVec F ⟨3, ![500, 16, 16]⟩ .f32)
    (h : Cert.Pre_in_range.fn (F := F) x t a b c = fun _ => 1#1) : InTable (F := F) (s := S262144) t := by
  intro j
  have e := congrFun h (fun a => a.elim0)
  exact lt_of_tests (t j) (Host.reduce_andi_all _ _ _ _ _ e j)

/-! ## The frames -/

/-- Every run from a memory whose time steps name table rows ends with the arguments unchanged, the result at `V₅` and every
    semaphore at zero. -/
theorem run_kept [∀ e, Nonempty (Elt F e)] (ρ : Dev nD → PrngReg) (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_v28) = V₅ m c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.KernelIdeal.defs _ _).mono (fun _ h => ⟨fun c =>
    ⟨h.1 c _ (mem_ucRefs main_v28 (by decide)),
      (h.1 c _ (mem_ucRefs main_arg0 (by decide))).trans (V₅_arg m c main_arg0 (by decide)),
      (h.1 c _ (mem_ucRefs main_arg1 (by decide))).trans (V₅_arg m c main_arg1 (by decide)),
      (h.1 c _ (mem_ucRefs main_arg2 (by decide))).trans (V₅_arg m c main_arg2 (by decide)),
      (h.1 c _ (mem_ucRefs main_arg3 (by decide))).trans (V₅_arg m c main_arg3 (by decide)),
      (h.1 c _ (mem_ucRefs main_arg4 (by decide))).trans (V₅_arg m c main_arg4 (by decide))⟩, h.2⟩) (run_main m ρ hpre)

end Cert.Proof.Diffuse

end
-- ==== Proof.Table.lean ====
/-
  The coefficient tables the gather kernel reads, and the operands the pipelined region reads, as functions of the arguments.
-/
module

public import proofs.«01_k».proof.Proof.Frames
public import Idealize.ShloMosaic.Lib.Pointwise
public import Idealize.ShloMosaic.Lib.Routing.OpsSet

@[expose] public section

noncomputable section

namespace Cert.Proof.Diffuse

open Cert.KernelIdeal Cert.KernelIdeal.Gen
open Idealize.ShloMosaic Idealize.ShloMosaic.TcCoe

/-- The six tables side by side, one row each, of the matrices `q` (of one step), `b` (of all the steps up to it) and `p` (of all
    the steps before it). -/
def columns (q b p : Vec Ideal S500x16x16 .f32) : Vec Ideal S6x500 .f32 :=
  let diag (x : Vec Ideal S500x16x16 .f32) : Vec Ideal S500x1 .f32 :=
    broadcastInDim S500x1 ![0] bcast_S500_S500x1_0 (shapeCast S500 (extractStridedSlice S500x1x1 ![0, 0, 0] x slices_S500x16x16_S500x1x1_0_0_0) shapeCasts_S500x1x1_S500)
  let off (x : Vec Ideal S500x16x16 .f32) : Vec Ideal S500x1 .f32 :=
    broadcastInDim S500x1 ![0] bcast_S500_S500x1_0 (shapeCast S500 (extractStridedSlice S500x1x1 ![0, 0, 1] x slices_S500x16x16_S500x1x1_0_0_1) shapeCasts_S500x1x1_S500)
  transpose S6x500 [1, 0] (concatenate S500x6 1 [⟨S500x1, diag q⟩, ⟨S500x1, off q⟩, ⟨S500x1, diag p⟩, ⟨S500x1, off p⟩, ⟨S500x1, diag b⟩, ⟨S500x1, off b⟩] concatenates_S500x1_S500x1_S500x1_S500x1_S500x1_S500x1_S500x6_d1) transposes_S500x6_S6x500_1_0

/-- The six coefficients at step `t`. -/
def six (q b p : Vec Ideal S500x16x16 .f32) (t : Fin 500) : Fin 6 → EReal :=
  ![q (ix3 t 0 0), q (ix3 t 0 1), p (ix3 t 0 0), p (ix3 t 0 1), b (ix3 t 0 0), b (ix3 t 0 1)]

set_option maxRecDepth 16384 in
/-- Row `a`, column `t` of the tables. -/
theorem columns_at (q b p : Vec Ideal S500x16x16 .f32) (a : Fin 6) (t : Fin 500) : columns q b p (ix2 a t) = six q b p t a := by
  fin_cases a <;> pointwise [columns, six]

/-- The tables padded to 512 columns. -/
def padded (u : Vec Ideal S6x500 .f32) : Vec Ideal S6x512 .f32 :=
  Host.scatter scatter_S6x512_S1_S6x500_01_n_1_0 (fun _ b => b)
    (broadcastInDim S6x512 ![] bcast_S_S6x512 (constant (F := Ideal) S_ .f32 0x00000000#32))
    (broadcastInDim S1 ![] bcast_S_S1 (constantI S_ 32 0#32)) u

/-- Entry `(a, b)` of the tables goes to entry `(r, c)` exactly when the two are the same. -/
theorem lands (idx : IVec S1 32) (h0 : ∀ j, idx j = 0#32) (a r : Fin 6) (b : Fin 500) (c : Fin 512) :
    scatter_S6x512_S1_S6x500_01_n_1_0.resultIdx? (ix2 a b) idx = some (ix2 r c) ↔ a.val = r.val ∧ b.val = c.val := by
  rw [Routing.resultIdx?_eq_some]
  have w0 : scatter_S6x512_S1_S6x500_01_n_1_0.window (ix2 a b) 0 = a.val := rfl
  have w1 : scatter_S6x512_S1_S6x500_01_n_1_0.window (ix2 a b) 1 = b.val := rfl
  have s0 : scatter_S6x512_S1_S6x500_01_n_1_0.start (ix2 a b) idx 0 = 0 := rfl
  have s1 : scatter_S6x512_S1_S6x500_01_n_1_0.start (ix2 a b) idx 1 = 0 := by
    unfold ScatterDims.start
    rw [dif_pos (show (1 : Fin 2) ∈ scatter_S6x512_S1_S6x500_01_n_1_0.scatterDimsToOperandDims from List.mem_singleton.mpr rfl), h0]
    rfl
  constructor
  · intro h
    have e0 := h 0
    have e1 := h 1
    rw [w0, s0] at e0
    rw [w1, s1] at e1
    have q0 : ((ix2 r c) 0 : Fin 6).val = r.val := rfl
    have q1 : ((ix2 r c) 1 : Fin 512).val = c.val := rfl
    constructor <;> omega
  · rintro ⟨ha, hb⟩ i
    match i with
    | ⟨0, _⟩ => exact (congrArg₂ (fun x y : Int => x + y) s0 (congrArg Nat.cast w0)).trans (by rw [ha]; exact Int.zero_add _)
    | ⟨1, _⟩ => exact (congrArg₂ (fun x y : Int => x + y) s1 (congrArg Nat.cast w1)).trans (by rw [hb]; exact Int.zero_add _)

/-- In its first 500 columns the padded table holds the tables. -/
theorem padded_at (u : Vec Ideal S6x500 .f32) (a : Fin 6) (t : Fin 500) : padded u (ix2 a (⟨t.val, by omega⟩ : Fin 512)) = u (ix2 a t) := by
  have h0 : ∀ j, (broadcastInDim S1 ![] bcast_S_S1 (constantI S_ 32 0#32) : IVec S1 32) j = 0#32 := fun _ => rfl
  refine Routing.scatter_set_hit _ _ _ u _ _ (fun k hk => ?_) (ix2 a t) ((lands _ h0 a a t (⟨t.val, by omega⟩ : Fin 512)).mpr ⟨rfl, rfl⟩)
  rw [eq_ix2 k] at hk ⊢
  obtain ⟨e0, e1⟩ := (lands _ h0 _ _ _ _).mp hk
  rw [Fin.ext e0, Fin.ext e1]

/-- Flattened: entry `t` of table `a` is at `t + 512 a`. -/
theorem flat_at (u : Vec Ideal S6x512 .f32) (a : Fin 6) (c : Fin 512) : (shapeCast S3072 u shapeCasts_S6x512_S3072) (cell (c.val + 512 * a.val)) = u (ix2 a c) := by
  have h : cell (c.val + 512 * a.val) = ix1 (⟨a.val * 512 + c.val, by have := a.isLt; have := c.isLt; omega⟩ : Fin 3072) := by
    funext i
    obtain rfl : i = 0 := Subsingleton.elim _ _
    refine Fin.ext ?_
    show (c.val + 512 * a.val) % 3072 = a.val * 512 + c.val
    have := a.isLt; have := c.isLt; omega
  rw [h]
  have e : ∀ (x : Fin 3072) (hx : x.val = a.val * 512 + c.val), (shapeCast S3072 u shapeCasts_S6x512_S3072) (ix1 x) = u (ix2 a c) := by
    intro x hx
    have hc := c.isLt
    pointwise
    rw [show (⟨x.val / 512, by omega⟩ : Fin 6) = a from Fin.ext (by show x.val / 512 = a.val; omega),
      show (⟨x.val % 512, by omega⟩ : Fin 512) = c from Fin.ext (by show x.val % 512 = c.val; omega)]
  exact e _ rfl

end Cert.Proof.Diffuse

end
-- ==== Proof.Block.lean ====
/-
  What the pipelined body computes at one element of its block, over the extended reals: the product with the selection
  matrix picks, for row `c`, one element of the first sixteen rows and one or two of the others.
-/
module

public import proofs.«01_k».proof.Proof.Common
public import Idealize.ShloMosaic.Lib.Pointwise

@[expose] public section

noncomputable section

namespace Cert.Proof.Diffuse

open Cert.KernelIdeal Cert.KernelIdeal.Gen
open Idealize.ShloMosaic

/-- The selection matrix has a one at row `r`, column `k`. -/
def Sel (r k : ℕ) : Prop :=
  r < 256 ∧ k = r % 16 ∨ 256 ≤ r ∧ (k = 16 + (r - 256) / 16 ∨ k = 32 + (r - 256) / 16 ∧ (r - 256) / 16 = (r - 256) % 16)

instance (r k : ℕ) : Decidable (Sel r k) := by unfold Sel; infer_instance

/-- An upper row of the selection matrix picks the element at the row's number modulo 16. -/
theorem sum_upper (l : Vec Ideal S512x48 .f32) (hl : ∀ r k, l (ix2 r k) = if Sel r.val k.val then (1 : EReal) else 0)
    (c : Fin 256) (f : Fin 48 → EReal) :
    (∑ k : Fin 48, l (ix2 ⟨c.val, by omega⟩ k) * f k) = f ⟨c.val % 16, by omega⟩ := by
  rw [Finset.sum_eq_single ⟨c.val % 16, by omega⟩]
  · rw [hl, if_pos (by unfold Sel; exact .inl ⟨by have := c.isLt; simpa using this, rfl⟩)]
    exact one_mul _
  · intro k _ hk
    have hc := c.isLt
    have : ¬ Sel c.val k.val := by
      unfold Sel
      have : k.val ≠ c.val % 16 := fun e => hk (Fin.ext e)
      omega
    rw [hl, if_neg this]
    exact zero_mul _
  · exact fun h => absurd (Finset.mem_univ _) h

/-- A lower row picks the element of the second sixteen at the row's number divided by 16, and on the diagonal adds the
    element of the third sixteen there. -/
theorem sum_lower (l : Vec Ideal S512x48 .f32) (hl : ∀ r k, l (ix2 r k) = if Sel r.val k.val then (1 : EReal) else 0)
    (c : Fin 256) (f : Fin 48 → EReal) :
    (∑ k : Fin 48, l (ix2 ⟨256 + c.val, by omega⟩ k) * f k)
      = f ⟨16 + c.val / 16, by omega⟩ + if c.val / 16 = c.val % 16 then f ⟨32 + c.val / 16, by omega⟩ else 0 := by
  have hc := c.isLt
  have e (k : Fin 48) : l (ix2 ⟨256 + c.val, by omega⟩ k) * f k
      = (if k = ⟨16 + c.val / 16, by omega⟩ then f k else 0)
        + (if k = ⟨32 + c.val / 16, by omega⟩ then (if c.val / 16 = c.val % 16 then f k else 0) else 0) := by
    rw [hl]
    have hs : Sel (256 + c.val) k.val ↔ k.val = 16 + c.val / 16 ∨ (k.val = 32 + c.val / 16 ∧ c.val / 16 = c.val % 16) := by
      unfold Sel; omega
    simp only [hs, Fin.ext_iff]
    by_cases h1 : k.val = 16 + c.val / 16
    · rw [if_pos (.inl h1), if_pos h1, if_neg (by omega), add_zero]
      exact one_mul _
    · by_cases h2 : k.val = 32 + c.val / 16
      · by_cases h3 : c.val / 16 = c.val % 16
        · rw [if_pos (.inr ⟨h2, h3⟩), if_neg h1, if_pos h2, if_pos h3, zero_add]
          exact one_mul _
        · rw [if_neg (by omega), if_neg h1, if_pos h2, if_neg h3, zero_add]
          exact zero_mul _
      · rw [if_neg (by omega), if_neg h1, if_neg h2, zero_add]
        exact zero_mul _
  rw [Finset.sum_congr rfl fun k _ => e k, Finset.sum_add_distrib, Finset.sum_ite_eq' Finset.univ, Finset.sum_ite_eq' Finset.univ,
    if_pos (Finset.mem_univ _), if_pos (Finset.mem_univ _)]

/-- The row `i` of a matrix `d` on its diagonal and `o` off it, applied to `x`, as the body computes it. -/
def mix (d o : EReal) (x : Fin 16 → EReal) (i : Fin 16) : EReal := o * (∑ j, x j) + (d - o) * x i

/-- The reciprocal of that, bounded below, as the body computes it. -/
def recip (d o : EReal) (x : Fin 16 → EReal) (i : Fin 16) : EReal := Ideal.div 1 (max (mix d o x i) (Ideal.ofBits .f32 0x3727C5AC#32))

/-- The body's value at row `16 i + k` of its block, from the six coefficients `cf` and the sixteen entries `x` of its column. -/
def posterior (cf : Fin 6 → EReal) (x : Fin 16 → EReal) (i k : Fin 16) : EReal :=
  mix (cf 0) (cf 1) x k
    * (cf 3 * recip (cf 4) (cf 5) x i + if i = k then (cf 2 - cf 3) * recip (cf 4) (cf 5) x i else 0)

set_option maxRecDepth 16384 in
/-- The body at row `c`, column `n` of its block. -/
theorem pay_at (x : Vec Ideal S16x16384 .f32) (cf : Vec Ideal S6x16384 .f32) (l : Vec Ideal S512x48 .f32)
    (hl : ∀ r k, l (ix2 r k) = if Sel r.val k.val then (1 : EReal) else 0) (c : Fin 256) (n : Fin 16384) :
    k1_pay1 (F := Ideal) x cf l (ix2 c n)
      = posterior (fun a => cf (ix2 a n)) (fun j => x (ix2 j n)) ⟨c.val / 16, by omega⟩ ⟨c.val % 16, by omega⟩ := by
  pointwise [k1_pay1]
  have hc := c.isLt
  refine congrArg₂ (fun a b : EReal => a * b) ((sum_upper l hl c _).trans ?_) ((sum_lower l hl c _).trans ?_)
  · simp only [show c.val % 16 < 16 by omega, ↓reduceDIte]
    rfl
  · simp only [show ¬ (16 + c.val / 16 < 16) by omega, show 16 + c.val / 16 - 16 = c.val / 16 by omega, show c.val / 16 < 16 by omega,
      show ¬ (32 + c.val / 16 < 16) by omega, show ¬ (32 + c.val / 16 - 16 < 16) by omega, show 32 + c.val / 16 - 16 - 16 = c.val / 16 by omega,
      ↓reduceDIte, Fin.mk.injEq]
    rfl

end Cert.Proof.Diffuse

end
-- ==== Proof.SelectionTable.lean ====
/-
  The selection matrix as printed, a table of 24576 words row by row, checked entry by entry.
-/
module

public import proofs.«01_k».proof.Proof.Block

@[expose] public section

noncomputable section

namespace Cert.Proof.Diffuse

open Cert.KernelIdeal Cert.KernelIdeal.Gen
open Idealize.ShloMosaic

/-- Every entry of the table, by its block of 128 and its place there. -/
theorem table_blocks : ∀ (a : Fin 192) (b : Fin 128), lit0t (128 * a.val + b.val)
    = if Sel ((128 * a.val + b.val) / 48) ((128 * a.val + b.val) % 48) then 0x3F800000#32 else 0x00000000#32 := by
  decide +kernel

end Cert.Proof.Diffuse

end
-- ==== Proof.Selection.lean ====
/-
  The selection matrix, printed as a table of words: row `r`, column `k` holds the word of one where `Sel r k`, else zero.
-/
module

public import proofs.«01_k».proof.Proof.SelectionTable
public import proofs.«01_k».proof.Proof.Block

@[expose] public section

noncomputable section

namespace Cert.Proof.Diffuse

open Cert.KernelIdeal Cert.KernelIdeal.Gen
open Idealize.ShloMosaic

/-- Every entry of the table. -/
theorem table_at (i : Fin 24576) : lit0 i = if Sel (i.val / 48) (i.val % 48) then 0x3F800000#32 else 0x00000000#32 := by
  have h := table_blocks ⟨i.val / 128, by have := i.isLt; omega⟩ ⟨i.val % 128, by omega⟩
  simp only [Nat.div_add_mod] at h
  exact h

/-- The matrix over the extended reals, as the program makes it. -/
theorem selection_at (r : Fin 512) (k : Fin 48) :
    (fun i => FloatOps.ofBits (F := Ideal) .f32 (lit0 (S512x48.rowMajor i)) : Vec Ideal S512x48 .f32) (ix2 r k)
      = if Sel r.val k.val then (1 : EReal) else 0 := by
  have hv : (S512x48.rowMajor (ix2 r k)).val = r.val * 48 + k.val := rowMajor_val2 (d := ![512, 48]) (ix2 r k) 48 rfl
  have hk := k.isLt
  have h := table_at (S512x48.rowMajor (ix2 r k))
  rw [hv, show (r.val * 48 + k.val) / 48 = r.val by omega, show (r.val * 48 + k.val) % 48 = k.val by omega] at h
  refine (congrArg (Ideal.ofBits .f32) h).trans ?_
  split
  · exact Ideal.ofBits_one_f32
  · exact Ideal.ofBits_zero_f32

end Cert.Proof.Diffuse

end
-- ==== Proof.Result.lean ====
/-
  The kernel's result as a function of the arguments, entry by entry.
-/
module

public import proofs.«01_k».proof.Proof.Table
public import proofs.«01_k».proof.Proof.Selection

@[expose] public section

noncomputable section

namespace Cert.Proof.Diffuse

open Cert.KernelIdeal Cert.KernelIdeal.Gen
open Idealize.ShloMosaic Idealize.ShloMosaic.TcCoe

/-- The selection matrix, -/
def selection : Vec Ideal S512x48 .f32 := fun i => FloatOps.ofBits (F := Ideal) .f32 (lit0 (S512x48.rowMajor i))

/-- the coefficients, six rows, -/
def coefs (t : IVec S262144 32) (q b p : Vec Ideal S500x16x16 .f32) : Vec Ideal S6x262144 .f32 :=
  coef (F := Ideal) (shapeCast S3072 (padded (columns q b p)) shapeCasts_S6x512_S3072) t

/-- and the whole result, of the arguments. -/
def result (x : Vec Ideal S262144x16 .f32) (t : IVec S262144 32) (q b p : Vec Ideal S500x16x16 .f32) : Vec Ideal S262144x16x16 .f32 :=
  transpose S262144x16x16 [2, 0, 1] (shapeCast S16x16x262144 (tcOut (F := Ideal) (transpose S16x262144 [1, 0] x transposes_S262144x16_S16x262144_1_0) (coefs t q b p) selection)
    shapeCasts_S256x262144_S16x16x262144) transposes_S16x16x262144_S262144x16x16_2_0_1

/-! ## The buffers -/

theorem pre_table (V : Valuation τ sig (Elt Ideal)) : StableHlo.after preOps V main_v23
    = shapeCast S3072 (padded (columns (V main_arg2) (V main_arg3) (V main_arg4))) shapeCasts_S6x512_S3072 := by
  simp only [preOps]
  after_results_simp <;> rfl

theorem pre_selection (V : Valuation τ sig (Elt Ideal)) : StableHlo.after preOps V main_cst = selection := by
  simp only [preOps]
  after_results_simp <;> rfl

theorem mid_transposed (V : Valuation τ sig (Elt Ideal)) : StableHlo.after midOps V main_v25
    = transpose S16x262144 [1, 0] (V main_arg0) transposes_S262144x16_S16x262144_1_0 := by
  simp only [midOps]
  after_results_simp <;> rfl

theorem post_result (V : Valuation τ sig (Elt Ideal)) : StableHlo.after postOps V main_v28
    = transpose S262144x16x16 [2, 0, 1] (shapeCast S16x16x262144 (V main_v26) shapeCasts_S256x262144_S16x16x262144) transposes_S16x16x262144_S262144x16x16_2_0_1 := by
  simp only [postOps]
  after_results_simp <;> rfl

/-- At the end the result buffer holds the whole result. -/
theorem V₅_result (m : (ℓ : Loc nD τ sig) → Buf (Elt Ideal) ℓ) (d : Dev nD) :
    V₅ m d main_v28 = result (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) := by
  have hx : V₃ m d main_v25 = transpose S16x262144 [1, 0] (m ((d.tc : Thread nD τ).loc main_arg0)) transposes_S262144x16_S16x262144_1_0 :=
    (mid_transposed _).trans (congrArg (fun x => transpose S16x262144 [1, 0] x transposes_S262144x16_S16x262144_1_0)
      ((V₂_kept m d main_arg0 (by decide)).trans (pre_kept _ main_arg0 (by decide))))
  have hc : V₃ m d main_v24 = coefs (m ((d.tc : Thread nD τ).loc main_arg1)) (m ((d.tc : Thread nD τ).loc main_arg2))
      (m ((d.tc : Thread nD τ).loc main_arg3)) (m ((d.tc : Thread nD τ).loc main_arg4)) := by
    refine (mid_kept _ main_v24 (by decide)).trans ((Function.update_self _ _ _).trans ?_)
    exact congrArg₂ (coef (F := Ideal)) (pre_table (V₀ m d)) (pre_kept (V₀ m d) main_arg1 (by decide))
  have hs : V₃ m d main_cst = selection :=
    (mid_kept _ main_cst (by decide)).trans ((V₂_kept m d main_cst (by decide)).trans (pre_selection _))
  refine (post_result _).trans ?_
  have hr : V₄ m d main_v26 = tcOut (F := Ideal) (V₃ m d main_v25) (V₃ m d main_v24) (V₃ m d main_cst) := Function.update_self _ _ _
  rw [hr, hx, hc, hs]
  rfl

/-! ## The entries -/

theorem pair_eq {r c : ℕ} (a : Fin r) (b : Fin c) : (Shape.pair (d := ![r, c]) a b : (⟨2, ![r, c]⟩ : Shape).Idx) = ix2 a b := by
  funext i
  match i with
  | ⟨0, _⟩ => rfl
  | ⟨1, _⟩ => rfl

/-- A block of an array at a column is the array at the column's own number. -/
theorem blkOf_at {r : ℕ} (x : (⟨2, ![r, 262144]⟩ : Shape).Idx → EReal) (n : Fin 262144) (hk : n.val / 16384 < 16) (a : Fin r) :
    blkOf x (n.val / 16384) hk (ix2 a (⟨n.val % 16384, Nat.mod_lt _ (by decide)⟩ : Fin 16384)) = x (ix2 a n) := by
  refine congrArg x ((pair_eq a _).trans (congrArg (ix2 a) (Fin.ext ?_)))
  show 16384 * (n.val / 16384) + n.val % 16384 = n.val
  omega

/-- The region's result at row `c`, column `n`. -/
theorem tcOut_at (x : Vec Ideal S16x262144 .f32) (cf : Vec Ideal S6x262144 .f32) (c : Fin 256) (n : Fin 262144) :
    tcOut (F := Ideal) x cf selection (ix2 c n)
      = posterior (fun a => cf (ix2 a n)) (fun j => x (ix2 j n)) ⟨c.val / 16, by omega⟩ ⟨c.val % 16, by omega⟩ := by
  have hn := n.isLt
  have hk : n.val / 16384 < 16 := by omega
  have h := pay_at (blkOf x (n.val / 16384) hk) (blkOf cf (n.val / 16384) hk) selection selection_at c ⟨n.val % 16384, Nat.mod_lt _ (by decide)⟩
  simp only [blkOf_at x n hk, blkOf_at cf n hk] at h
  exact (congrArg (k1_pay1 (F := Ideal) (blkOf x (n.val / 16384) hk) (blkOf cf (n.val / 16384) hk) selection) (pair_eq c _)).trans h

/-- The coefficients of column `n` are those of its time step. -/
theorem coefs_at (t : IVec S262144 32) (q b p : Vec Ideal S500x16x16 .f32) (n : Fin 262144) (h : (t (ix1 n)).toNat < 500) (a : Fin 6) :
    coefs t q b p (ix2 a n) = six q b p ⟨(t (ix1 n)).toNat, h⟩ a := by
  have e : (Shape.ofLane (d := ![262144]) n : S262144.Idx) = ix1 n := by
    funext i
    match i with
    | ⟨0, _⟩ => rfl
  have f := flat_at (padded (columns q b p)) a ⟨(t (ix1 n)).toNat, by omega⟩
  rw [padded_at (columns q b p) a ⟨(t (ix1 n)).toNat, h⟩, columns_at] at f
  refine Eq.trans ?_ f
  show look (F := Ideal) (shapeCast S3072 (padded (columns q b p)) shapeCasts_S6x512_S3072) (t (Shape.ofLane (d := ![262144]) n)) a.val = _
  rw [e]
  rfl

set_option maxRecDepth 16384 in
/-- The result at row `n`, from class `k` to class `i`. -/
theorem result_at (x : Vec Ideal S262144x16 .f32) (t : IVec S262144 32) (q b p : Vec Ideal S500x16x16 .f32) (n : Fin 262144)
    (h : (t (ix1 n)).toNat < 500) (i k : Fin 16) :
    result x t q b p (ix3 n i k) = posterior (six q b p ⟨(t (ix1 n)).toNat, h⟩) (fun j => x (ix2 n j)) i k := by
  pointwise [result]
  rw [tcOut_at]
  simp only [coefs_at t q b p n h]
  pointwise
  have hi : (⟨(i.val * 16 + k.val) / 16, by omega⟩ : Fin 16) = i := Fin.ext (by show (i.val * 16 + k.val) / 16 = i.val; omega)
  have hk : (⟨(i.val * 16 + k.val) % 16, by omega⟩ : Fin 16) = k := Fin.ext (by show (i.val * 16 + k.val) % 16 = k.val; omega)
  exact congrArg₂ (posterior _ _) hi hk

end Cert.Proof.Diffuse

end
-- ==== Proof.Reference.lean ====
/-
  The reference's result as a function of the arguments, entry by entry.
-/
module

public import proofs.«01_k».proof.Proof.Gen.ReferenceIdeal.Run
public import Idealize.ShloMosaic.Lib.Pointwise
public import Idealize.ShloMosaic.Lib.ReduceAll
public import Idealize.ShloMosaic.Lib.ValueIdxCore

@[expose] public section

noncomputable section

namespace Cert.Proof.Reference

open Cert.ReferenceIdeal Cert.ReferenceIdeal.Gen
open Idealize.ShloMosaic Idealize.ShloMosaic.TcCoe

/-- The time steps as row indices: a negative one counts from the end. -/
def rows (t : IVec S262144 32) : IVec S262144x1 32 :=
  broadcastInDim S262144x1 ![0] bcast_S262144_S262144x1_0 (select (cmpi .slt t (broadcastInDim S262144 ![] bcast_S_S262144 (constantI S_ 32 0#32)))
    (addi t (broadcastInDim S262144 ![] bcast_S_S262144 (constantI S_ 32 500#32))) t)

/-- Which of them lie in the table. -/
def inside (t : IVec S262144 32) : IVec S262144 1 :=
  Host.reduce IntOp.andi (andi (cmpi .sge (rows t) (broadcastInDim S262144x1 ![] bcast_S_S262144x1 (constantI S_ 32 0#32)))
    (cmpi .sle (rows t) (broadcastInDim S262144x1 ![0, 1] bcast_S1x1_S262144x1_0_1 (broadcastInDim S1x1 ![1] bcast_S1_S1x1_1 (constantI S1 32 499#32)))))
    (constantI S_ 1 1#1) reducesTo_S262144x1_S262144_d1 h_S_

/-- The matrices of the time steps. -/
def taken (a : Vec Ideal S500x16x16 .f32) (t : IVec S262144 32) : Vec Ideal S262144x16x16 .f32 :=
  select (broadcastInDim S262144x16x16 ![0] bcast_S262144_S262144x16x16_0 (inside t))
    (Host.gather gather_S500x16x16_S262144x1_S262144x16x16_12_0_n_n_0_1_11616 a (rows t))
    (broadcastInDim S262144x16x16 ![] bcast_S_S262144x16x16 (constant (F := Ideal) S_ .f32 0x7FC00000#32))

/-- The whole result, of the arguments. -/
def result (x : Vec Ideal S262144x16 .f32) (t : IVec S262144 32) (q b p : Vec Ideal S500x16x16 .f32) : Vec Ideal S262144x16x16 .f32 :=
  Host.divf (mulf (broadcastInDim S262144x16x16 ![0, 1, 2] bcast_S262144x1x16_S262144x16x16_0_1_2 (broadcastInDim S262144x1x16 ![0, 2] bcast_S262144x16_S262144x1x16_0_2
      (Host.dotGeneral (F := Ideal) (φ₁ := .f32) (φ₂ := .f32) dot_S262144x16_S262144x16x16_S262144x16_1_1_n_2_0_0 none x (transpose S262144x16x16 [0, 2, 1] (taken q t) transposes_S262144x16x16_S262144x16x16_0_2_1))))
      (taken p t))
    (broadcastInDim S262144x16x16 ![0, 1, 2] bcast_S262144x16x1_S262144x16x16_0_1_2 (maximumf (broadcastInDim S262144x16x1 ![0, 1] bcast_S262144x16_S262144x16x1_0_1
      (Host.dotGeneral (F := Ideal) (φ₁ := .f32) (φ₂ := .f32) dot_S262144x16x16_S262144x16_S262144x16_2_1_1_n_0_0 none (taken b t) x))
      (broadcastInDim S262144x16x1 ![] bcast_S_S262144x16x1 (constant (F := Ideal) S_ .f32 0x3727C5AC#32))))

set_option maxRecDepth 16384 in
/-- It is what the reference's run ends with. -/
theorem run_result (m : (ℓ : Loc nD τ sig) → Buf (Elt Ideal) ℓ) (d : Dev nD) :
    Cert.ReferenceIdeal.Value.res_out0 m d = result (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) := by
  unfold Cert.ReferenceIdeal.Value.res_out0 Cert.ReferenceIdeal.Value.res_main_v13
  rfl

/-! ## The entries -/

/-- A row index inside the table is the time step. -/
theorem rows_at (t : IVec S262144 32) (ht : ∀ j, (t j).toNat < 500) (j : S262144x1.Idx) : rows t j = t (ix1 (j 0)) := by
  have h := ht (ix1 (j 0))
  pointwise [rows]
  have e : IntOp.cmpi .slt (t (ix1 (j 0))) 0#32 = 0#1 := by
    have ofBool_zero (p : Bool) : (BitVec.ofBool p = 0#1) ↔ ¬ p = true := by cases p <;> decide
    simp only [IntOp.cmpi, ofBool_zero, BitVec.slt_eq_decide, decide_eq_true_eq, BitVec.toInt_eq_toNat_cond, BitVec.toNat_ofNat, Nat.reducePow, Nat.reduceMod]
    omega
  rw [e]
  rfl

theorem inside_at (t : IVec S262144 32) (ht : ∀ j, (t j).toNat < 500) (j : S262144.Idx) : inside t j = 1#1 := by
  refine Host.reduce_andi_one _ _ _ _ _ rfl fun i => ?_
  have h := ht (ix1 (i 0))
  have e := rows_at t ht i
  show IntOp.andi (IntOp.cmpi .sge (rows t i) 0#32) (IntOp.cmpi .sle (rows t i) 499#32) = 1#1
  rw [e]
  generalize t (ix1 (i 0)) = v at h
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

set_option maxRecDepth 16384 in
/-- The gather's entry: the matrix of the row index, read signed and cut to the table. -/
theorem gather_at (a : Vec Ideal S500x16x16 .f32) (r : IVec S262144x1 32) (n : Fin 262144) (i j : Fin 16) :
    Host.gather gather_S500x16x16_S262144x1_S262144x16x16_12_0_n_n_0_1_11616 a r (ix3 n i j)
      = a (ix3 ⟨min (r (ix2 n 0)).toInt.toNat 499, by omega⟩ i j) := by
  unfold Host.gather
  congr 1
  funext c
  refine Fin.ext ?_
  show gather_S500x16x16_S262144x1_S262144x16x16_12_0_n_n_0_1_11616.start (ix3 n i j) r c
    + gather_S500x16x16_S262144x1_S262144x16x16_12_0_n_n_0_1_11616.batchCoord (ix3 n i j) c
    + gather_S500x16x16_S262144x1_S262144x16x16_12_0_n_n_0_1_11616.offCoord (ix3 n i j) c = _
  rw [GatherDims.batchCoord_eq_zero _ _ _ List.not_mem_nil]
  match c with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 3) ∈ gather_S500x16x16_S262144x1_S262144x16x16_12_0_n_n_0_1_11616.startIndexMap from List.mem_singleton.mpr rfl)).trans ?_
    have hsi : gather_S500x16x16_S262144x1_S262144x16x16_12_0_n_n_0_1_11616.siIdx (ix3 n i j)
        ⟨List.idxOf (0 : Fin 3) gather_S500x16x16_S262144x1_S262144x16x16_12_0_n_n_0_1_11616.startIndexMap, List.idxOf_lt_length_iff.2 (List.mem_singleton.mpr rfl)⟩ = ix2 n 0 := by
      funext b
      refine Fin.ext ?_
      match b with
      | ⟨0, _⟩ => rfl
      | ⟨1, _⟩ => rfl
    exact congrArg (fun z => min (r z).toInt.toNat 499) hsi
  | ⟨1, _⟩ => exact Nat.zero_add _
  | ⟨2, _⟩ => exact Nat.zero_add _

/-- The matrices of the time steps, entry by entry. -/
theorem taken_at (a : Vec Ideal S500x16x16 .f32) (t : IVec S262144 32) (ht : ∀ j, (t j).toNat < 500) (n : Fin 262144) (i j : Fin 16) :
    taken a t (ix3 n i j) = a (ix3 ⟨(t (ix1 n)).toNat, ht _⟩ i j) := by
  have h := ht (ix1 n)
  pointwise [taken]
  rw [gather_at, inside_at t ht]
  refine congrArg a (congrArg (fun z => ix3 z i j) (Fin.ext ?_))
  show min (rows t (ix2 n 0)).toInt.toNat 499 = (t (ix1 n)).toNat
  rw [rows_at t ht]
  show min (t (ix1 n)).toInt.toNat 499 = (t (ix1 n)).toNat
  rw [BitVec.toInt_eq_toNat_cond]
  split <;> omega

set_option maxRecDepth 16384 in
/-- The result, entry by entry. -/
theorem result_at (x : Vec Ideal S262144x16 .f32) (t : IVec S262144 32) (q b p : Vec Ideal S500x16x16 .f32) (ht : ∀ j, (t j).toNat < 500)
    (n : Fin 262144) (i k : Fin 16) :
    result x t q b p (ix3 n i k)
      = Ideal.div ((∑ j, x (ix2 n j) * q (ix3 ⟨(t (ix1 n)).toNat, ht _⟩ k j)) * p (ix3 ⟨(t (ix1 n)).toNat, ht _⟩ i k))
          (max (∑ j, b (ix3 ⟨(t (ix1 n)).toNat, ht _⟩ i j) * x (ix2 n j)) (Ideal.ofBits .f32 0x3727C5AC#32)) := by
  pointwise [result]
  simp only [taken_at _ t ht]

end Cert.Proof.Reference

end
-- ==== Proof.Algebra.lean ====
/-
  Over the reals: the body's regrouped form of the posterior is the reference's, where each matrix has one value on its diagonal and
  one off it.
-/
module

public import proofs.«01_k».proof.Proof.Block
public import Idealize.ShloMosaic.Lib.IdealHost

@[expose] public section

noncomputable section

namespace Cert.Proof.Diffuse

open Idealize.ShloMosaic

/-- A matrix with `d` on its diagonal and `o` off it. -/
def two {α : Type} (d o : α) (i j : Fin 16) : α := if i = j then d else o

theorem two_coe (d o : ℝ) (i j : Fin 16) : two (d : EReal) (o : EReal) i j = ((two d o i j : ℝ) : EReal) := by
  unfold two; split <;> rfl

/-- The lower bound is a positive real. -/
theorem eps_real : ∃ e : ℝ, 0 < e ∧ Ideal.ofBits .f32 0x3727C5AC#32 = (e : EReal) := by
  refine ⟨((2 : ℝ) ^ 23 + 2606508) * (2 : ℝ) ^ (-40 : ℤ), by positivity, ?_⟩
  simp [Ideal.ofBits, Ideal.ieee, -EReal.coe_mul]; norm_num

theorem sum_coe (f : Fin 16 → ℝ) : (∑ j, ((f j : ℝ) : EReal)) = ((∑ j, f j : ℝ) : EReal) :=
  (map_sum (⟨⟨Real.toEReal, EReal.coe_zero⟩, EReal.coe_add⟩ : ℝ →+ EReal) f Finset.univ).symm

/-- A row of such a matrix applied to a vector. -/
theorem row_real (d o : ℝ) (x : Fin 16 → ℝ) (i : Fin 16) : (∑ j, two d o i j * x j) = o * (∑ j, x j) + (d - o) * x i := by
  have e (j : Fin 16) : two d o i j * x j = o * x j + if i = j then (d - o) * x j else 0 := by
    unfold two; split <;> ring
  rw [Finset.sum_congr rfl fun j _ => e j, Finset.sum_add_distrib, ← Finset.mul_sum, Finset.sum_ite_eq, if_pos (Finset.mem_univ _)]

/-- The body's regrouped row is the row. -/
theorem mix_real (d o : ℝ) (x : Fin 16 → ℝ) (i : Fin 16) : mix (d : EReal) (o : EReal) (fun j => ((x j : ℝ) : EReal)) i = ((∑ j, two d o i j * x j : ℝ) : EReal) := by
  unfold mix
  rw [row_real, sum_coe]
  push_cast
  rfl

theorem max_coe (a b : ℝ) : max (a : EReal) (b : EReal) = ((max a b : ℝ) : EReal) := (EReal.coe_strictMono.monotone.map_max).symm

theorem div_real (a : ℝ) {b : ℝ} (h : b ≠ 0) : Ideal.div (a : EReal) (b : EReal) = ((a / b : ℝ) : EReal) := by
  rw [Ideal.div_coe h, ← EReal.coe_mul, mul_one_div]

/-- The body's posterior is the reference's. -/
theorem posterior_real (qd qo pd po bd bo : ℝ) (x : Fin 16 → ℝ) (i k : Fin 16) :
    posterior ![(qd : EReal), (qo : EReal), (pd : EReal), (po : EReal), (bd : EReal), (bo : EReal)] (fun j => ((x j : ℝ) : EReal)) i k
      = Ideal.div ((∑ j, ((x j : ℝ) : EReal) * two (qd : EReal) (qo : EReal) k j) * two (pd : EReal) (po : EReal) i k)
          (max (∑ j, two (bd : EReal) (bo : EReal) i j * ((x j : ℝ) : EReal)) (Ideal.ofBits .f32 0x3727C5AC#32)) := by
  obtain ⟨e, he, hb⟩ := eps_real
  have hl (j : Fin 16) : ((x j : ℝ) : EReal) * two (qd : EReal) (qo : EReal) k j = ((two qd qo k j * x j : ℝ) : EReal) := by
    rw [two_coe, ← EReal.coe_mul, mul_comm]
  have hr (j : Fin 16) : two (bd : EReal) (bo : EReal) i j * ((x j : ℝ) : EReal) = ((two bd bo i j * x j : ℝ) : EReal) := by
    rw [two_coe, ← EReal.coe_mul]
  have hm : max (∑ j, two bd bo i j * x j) e ≠ 0 := (lt_max_of_lt_right he).ne'
  have hrec : recip (bd : EReal) (bo : EReal) (fun j => ((x j : ℝ) : EReal)) i = ((1 / max (∑ j, two bd bo i j * x j) e : ℝ) : EReal) := by
    unfold recip
    rw [mix_real, hb, max_coe, ← EReal.coe_one, div_real 1 hm]
  show mix (qd : EReal) (qo : EReal) (fun j => ((x j : ℝ) : EReal)) k
      * ((po : EReal) * recip (bd : EReal) (bo : EReal) (fun j => ((x j : ℝ) : EReal)) i
        + if i = k then ((pd : EReal) - (po : EReal)) * recip (bd : EReal) (bo : EReal) (fun j => ((x j : ℝ) : EReal)) i else 0) = _
  rw [Finset.sum_congr rfl fun j _ => hl j, Finset.sum_congr rfl fun j _ => hr j, sum_coe, sum_coe, hrec, mix_real, hb, max_coe, two_coe,
    ← EReal.coe_mul (∑ j, two qd qo k j * x j), div_real _ hm]
  generalize (∑ j, two qd qo k j * x j) = a
  generalize max (∑ j, two bd bo i j * x j) e = b at hm ⊢
  unfold two
  by_cases h : i = k
  · rw [if_pos h, if_pos h]
    norm_cast
    field_simp
    ring
  · rw [if_neg h, if_neg h, add_zero]
    norm_cast
    field_simp

end Cert.Proof.Diffuse

end
-- ==== Proof.Conditions.lean ====
/-
  What `diffusion` says of the arguments: the time steps name table rows, every number is a real, and each matrix has one value on
  its diagonal and one off it.
-/
module

public import proofs.«01_k».proof.Pre_diffusion
public import proofs.«01_k».proof.Proof.Frames
public import proofs.«01_k».proof.Proof.Algebra

@[expose] public section

noncomputable section

namespace Cert.Proof.Diffuse

open Idealize.ShloMosaic

/-- The shape relations `diffusion` states. -/
instance diffusion_facts : Cert.Pre_diffusion.Facts where
  bcast_S_S262144 := by decide
  reducesTo_S262144_S_d0 := by decide
  h_S_ := by decide
  bcast_S_S262144x16 := by decide
  reducesTo_S262144x16_S_d0_1 := by decide
  bcast_S_S500x16x16 := by decide
  reducesTo_S500x16x16_S_d0_1_2 := by decide
  slices_S500x16x16_S500x1x1_0_0_0 := by decide
  slices_S500x16x16_S500x1x1_0_0_1 := by decide
  bcast_S500x1x1_S500x16x16_0_1_2 := by decide

/-- A number whose magnitude is below infinity is a real. -/
theorem real_of_test (v : EReal) (e : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at e
  have ofBool_eq_one (p : Bool) : (BitVec.ofBool p = 1#1) ↔ p = true := by cases p <;> decide
  induction v using EReal.rec with
  | coe r => exact ⟨r, rfl⟩
  | bot => simp [Ideal.cmp] at e
  | top => simp [Ideal.cmp] at e

/-- What is asked of the arguments. -/
structure Diffusion (x : (⟨2, ![262144, 16]⟩ : Shape).Idx → EReal) (t : IVec ⟨1, ![262144]⟩ 32) (q b p : (⟨3, ![500, 16, 16]⟩ : Shape).Idx → EReal) : Prop where
  steps : ∀ j, (t j).toNat < 500
  real_x : ∀ j, ∃ r : ℝ, x j = (r : EReal)
  real_q : ∀ j, ∃ r : ℝ, q j = (r : EReal)
  real_b : ∀ j, ∃ r : ℝ, b j = (r : EReal)
  real_p : ∀ j, ∃ r : ℝ, p j = (r : EReal)
  two_q : ∀ t i j, q (ix3 t i j) = two (q (ix3 t 0 0)) (q (ix3 t 0 1)) i j
  two_b : ∀ t i j, b (ix3 t i j) = two (b (ix3 t 0 0)) (b (ix3 t 0 1)) i j
  two_p : ∀ t i j, p (ix3 t i j) = two (p (ix3 t 0 0)) (p (ix3 t 0 1)) i j

open Cert.Pre_diffusion in
/-- The test of a matrix: each entry is the one its place calls for. -/
theorem two_of_test (a : FVec Ideal S500x16x16 .f32) (hd : S500x16x16.Slices ![0, 0, 0] S500x1x1) (ho : S500x16x16.Slices ![0, 0, 1] S500x1x1)
    (t : Fin 500) (i j : Fin 16)
    (e : cmpf .oeq a (fn_where (F := Ideal) (cmpi .eq (iotaInDim S500x16x16 32 1) (iotaInDim S500x16x16 32 2))
      (extractStridedSlice S500x1x1 ![0, 0, 0] a hd) (extractStridedSlice S500x1x1 ![0, 0, 1] a ho)) (ix3 t i j) = 1#1) :
    a (ix3 t i j) = two (a (ix3 t 0 0)) (a (ix3 t 0 1)) i j := by
  pointwise [fn_where] at e
  have ofBool_eq_one (p : Bool) : (BitVec.ofBool p = 1#1) ↔ p = true := by cases p <;> decide
  rw [ofBool_eq_one, decide_eq_true_eq] at e
  refine e.trans ?_
  have hc : IntOp.cmpi .eq (BitVec.ofNat 32 i.val) (BitVec.ofNat 32 j.val) = 1#1 ↔ i = j := by
    have hi := i.isLt
    have hj := j.isLt
    simp only [IntOp.cmpi, ofBool_eq_one, beq_iff_eq, Fin.ext_iff, ← BitVec.toNat_inj, BitVec.toNat_ofNat, Nat.reducePow]
    omega
  unfold Scalar.select two
  by_cases hij : i = j
  · exact (if_pos (hc.mpr hij)).trans (if_pos hij).symm
  · exact (if_neg fun h => hij (hc.mp h)).trans (if_neg hij).symm

open Cert.Pre_diffusion in
/-- `diffusion` is all ones only of such arguments. -/
theorem diffusion_of (x : FVec Ideal ⟨2, ![262144, 16]⟩ .f32) (t : IVec ⟨1, ![262144]⟩ 32) (q b p : FVec Ideal ⟨3, ![500, 16, 16]⟩ .f32)
    (h : Cert.Pre_diffusion.fn (F := Ideal) x t q b p = fun _ => 1#1) : Diffusion x t q b p := by
  have e := congrFun h (fun a => a.elim0)
  unfold fn fn_part1 fn_part2 at e
  dsimp only at e
  obtain ⟨e, e₈⟩ := both e
  obtain ⟨e, e₇⟩ := both e
  obtain ⟨e, e₆⟩ := both e
  obtain ⟨e, e₅⟩ := both e
  obtain ⟨e, e₄⟩ := both e
  obtain ⟨e, e₃⟩ := both e
  obtain ⟨e₁, e₂⟩ := both e
  exact {
    steps := fun j => lt_of_tests (t j) (Host.reduce_andi_all _ _ _ _ _ e₁ j)
    real_x := fun j => real_of_test (x j) (Host.reduce_andi_all _ _ _ _ _ e₂ j)
    real_q := fun j => real_of_test (q j) (Host.reduce_andi_all _ _ _ _ _ e₃ j)
    real_b := fun j => real_of_test (b j) (Host.reduce_andi_all _ _ _ _ _ e₄ j)
    real_p := fun j => real_of_test (p j) (Host.reduce_andi_all _ _ _ _ _ e₅ j)
    two_q := fun t i j => two_of_test q _ _ t i j (Host.reduce_andi_all _ _ _ _ _ e₆ (ix3 t i j))
    two_b := fun t i j => two_of_test b _ _ t i j (Host.reduce_andi_all _ _ _ _ _ e₇ (ix3 t i j))
    two_p := fun t i j => two_of_test p _ _ t i j (Host.reduce_andi_all _ _ _ _ _ e₈ (ix3 t i j)) }

end Cert.Proof.Diffuse

end
-- ==== Proof.Value.lean ====
/-
  The two results agree on the arguments `diffusion` holds of.
-/
module

public import proofs.«01_k».proof.Proof.Result
public import proofs.«01_k».proof.Proof.Reference
public import proofs.«01_k».proof.Proof.Conditions

@[expose] public section

noncomputable section

namespace Cert.Proof.Diffuse

open Idealize.ShloMosaic

/-- The kernel's result is the reference's, entry by entry. -/
theorem results_agree (x : FVec Ideal ⟨2, ![262144, 16]⟩ .f32) (t : IVec ⟨1, ![262144]⟩ 32) (q b p : FVec Ideal ⟨3, ![500, 16, 16]⟩ .f32)
    (h : Diffusion x t q b p) : Diffuse.result x t q b p = Reference.result x t q b p := by
  funext y
  rw [eq_ix3 y]
  generalize y 0 = n
  generalize y 1 = i
  generalize y 2 = k
  refine (result_at x t q b p n (h.steps _) i k).trans (Eq.trans ?_ (Reference.result_at x t q b p h.steps n i k).symm)
  obtain ⟨qd, hqd⟩ := h.real_q (ix3 ⟨(t (ix1 n)).toNat, h.steps _⟩ 0 0)
  obtain ⟨qo, hqo⟩ := h.real_q (ix3 ⟨(t (ix1 n)).toNat, h.steps _⟩ 0 1)
  obtain ⟨pd, hpd⟩ := h.real_p (ix3 ⟨(t (ix1 n)).toNat, h.steps _⟩ 0 0)
  obtain ⟨po, hpo⟩ := h.real_p (ix3 ⟨(t (ix1 n)).toNat, h.steps _⟩ 0 1)
  obtain ⟨bd, hbd⟩ := h.real_b (ix3 ⟨(t (ix1 n)).toNat, h.steps _⟩ 0 0)
  obtain ⟨bo, hbo⟩ := h.real_b (ix3 ⟨(t (ix1 n)).toNat, h.steps _⟩ 0 1)
  choose z hz using fun j : Fin 16 => h.real_x (ix2 n j)
  have e := posterior_real qd qo pd po bd bo z i k
  simp only [h.two_q _ k, h.two_p _ i k, h.two_b _ i, six, hqd, hqo, hpd, hpo, hbd, hbo, hz]
  exact e

end Cert.Proof.Diffuse

end
-- ==== Proof.lean ====
/-
  The certificate's claim: the frames of the kernel, of its idealization and of the reference, that the idealization rewrites
  nothing, and that over the extended reals the kernel's result is the reference's.
-/
module

public import proofs.«01_k».proof.Defs
public import proofs.«01_k».proof.Proof.Frames
public import proofs.«01_k».proof.Proof.Printed.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.ShloMosaic.TcCoe Idealize.SL.Sem

/-- The kernel's frame under `in_range`. -/
theorem frame_kernel : Cert.quiescent_Kernel := fun m ρ hpre =>
  (θ_run Cert.Kernel.defs _ _).mono (fun _ h => ⟨fun c => (h.1 c).2, h.2⟩)
    (Printed.run_kept (F := Bits) m ρ fun d => Printed.inTable_of_in_range _ _ _ _ _ (hpre d))

/-- The idealized kernel's frame under `in_range`. -/
theorem frame_ideal : Cert.quiescent_KernelIdeal := fun m ρ hpre =>
  (θ_run Cert.KernelIdeal.defs _ _).mono (fun _ h => ⟨fun c => (h.1 c).2, h.2⟩)
    (Diffuse.run_kept (F := Ideal) m ρ fun d => Diffuse.inTable_of_in_range _ _ _ _ _ (hpre d))

/-- The idealized kernel's frame under `diffusion`. -/
theorem frame_ideal_diffusion : Cert.quiescent_KernelIdeal_pre_diffusion := fun m ρ hpre =>
  (θ_run Cert.KernelIdeal.defs _ _).mono (fun _ h => ⟨fun c => (h.1 c).2, h.2⟩)
    (Diffuse.run_kept (F := Ideal) m ρ fun d => (Diffuse.diffusion_of _ _ _ _ _ (hpre d)).steps)

/-- The reference's frame. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's frame under `diffusion`. -/
theorem frame_reference_diffusion : Cert.quiescent_ReferenceIdeal_pre_diffusion := fun m ρ _ => frame_reference m ρ trivial

/-- Under `diffusion` the two programs' results are one array. -/
theorem agree : Cert.algebraic_KernelIdeal_ReferenceIdeal_pre_diffusion := by
  intro m ρ m' ρ' hpre hargs
  refine ⟨fun c => Diffuse.V₅ m c Cert.KernelIdeal.main_v28, ?_, ?_⟩
  · exact (θ_run Cert.KernelIdeal.defs _ _).mono (fun _ h => h.1)
      (Diffuse.run_kept (F := Ideal) m ρ fun d => (Diffuse.diffusion_of _ _ _ _ _ (hpre d)).steps)
  · refine (θ_run Cert.ReferenceIdeal.defs _ _).mono (fun _ h c => ⟨(h c).1.trans ?_, (h c).2⟩) (Cert.ReferenceIdeal.Value.run (F := Ideal) m' ρ')
    obtain ⟨h0, h1, h2, h3, h4⟩ := hargs c
    refine (Reference.run_result m' c).trans ?_
    rw [h0, h1, h2, h3, h4]
    exact ((Diffuse.V₅_result m c).trans (Diffuse.results_agree _ _ _ _ _ (Diffuse.diffusion_of _ _ _ _ _ (hpre c)))).symm

theorem claim : Cert.Claim := ⟨Cert.Kernel.Gen.facts, Cert.KernelIdeal.Gen.facts, Cert.ReferenceIdeal.Gen.facts, Cert.Pre_in_range.Gen.facts,
  Diffuse.diffusion_facts, frame_kernel, frame_ideal, frame_ideal_diffusion, frame_reference, frame_reference_diffusion, trivial, agree⟩

end Cert.Proof

end
